-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![1024, 32768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 32768]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S2x1024x1024 : Shape := ⟨3, ![2, 1024, 1024]⟩
abbrev S512x384 : Shape := ⟨2, ![512, 384]⟩
abbrev S256x384 : Shape := ⟨2, ![256, 384]⟩
abbrev S512x256 : Shape := ⟨2, ![512, 256]⟩
abbrev S256x256 : Shape := ⟨2, ![256, 256]⟩
abbrev S2x2 : Shape := ⟨2, ![2, 2]⟩
abbrev S3x2 : Shape := ⟨2, ![3, 2]⟩
abbrev S24 : Shape := ⟨1, ![24]⟩
abbrev S1x1 : Shape := ⟨2, ![1, 1]⟩
abbrev S_ : Shape := ⟨0, ![]⟩
abbrev S1x1024x1024 : Shape := ⟨3, ![1, 1024, 1024]⟩
abbrev S1 : Shape := ⟨1, ![1]⟩
abbrev S128x384 : Shape := ⟨2, ![128, 384]⟩
abbrev S128x256 : Shape := ⟨2, ![128, 256]⟩

abbrev nBuf : Space → Nat
  | .hbm => 3
  | .vmem => 14
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .bf16⟩
  | .local _ .vmem, ⟨0, _⟩ => ⟨S1024x1024, .bf16⟩
  | .local _ .vmem, ⟨1, _⟩ => ⟨S1024x1024, .f32⟩
  | .local _ .vmem, ⟨2, _⟩ => ⟨S1024x1024, .bf16⟩
  | .local _ .vmem, ⟨3, _⟩ => ⟨S2x1024x1024, .f32⟩
  | .local _ .vmem, ⟨4, _⟩ => ⟨S2x1024x1024, .f32⟩
  | .local _ .vmem, ⟨5, _⟩ => ⟨S512x384, .bf16⟩
  | .local _ .vmem, ⟨6, _⟩ => ⟨S256x384, .bf16⟩
  | .local _ .vmem, ⟨7, _⟩ => ⟨S256x384, .bf16⟩
  | .local _ .vmem, ⟨8, _⟩ => ⟨S512x384, .bf16⟩
  | .local _ .vmem, ⟨9, _⟩ => ⟨S256x384, .bf16⟩
  | .local _ .vmem, ⟨10, _⟩ => ⟨S256x384, .bf16⟩
  | .local _ .vmem, ⟨11, _⟩ => ⟨S512x256, .bf16⟩
  | .local _ .vmem, ⟨12, _⟩ => ⟨S256x256, .bf16⟩
  | .local _ .vmem, ⟨13, _⟩ => ⟨S256x256, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_162 : BitVec 32 := 1#32
  let v151 : BitVec 32 := Scalar.muli v18 c1_i32_162
  let v152 : BitVec 32 := Scalar.addi c0_i32_163 v151
  v152.toNat
def k0_dev2 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_165 : BitVec 32 := 1#32
  let v153 : BitVec 32 := Scalar.muli v14 c1_i32_165
  let v154 : BitVec 32 := Scalar.addi c0_i32_166 v153
  v154.toNat
def k0_dev3 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_168 : BitVec 32 := 1#32
  let v155 : BitVec 32 := Scalar.muli v10 c1_i32_168
  let v156 : BitVec 32 := Scalar.addi c0_i32_169 v155
  v156.toNat
def k0_off1 (d0 : Dev nD) (c0_i32_187 : BitVec 32) : Fin 2 → Nat :=
  let c1_i32_171 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let v160 : BitVec 32 := Scalar.subi c1_i32_171 v4
  let c512_i32_172 : BitVec 32 := 512#32
  let v161 : BitVec 32 := Scalar.muli v160 c512_i32_172
  let v181 : BitVec 32 := Scalar.addi v161 c0_i32_187
  let c0_i32_195 : BitVec 32 := 0#32
  ![v181.toNat, 0]
def k0_dev4 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_191 : BitVec 32 := 1#32
  let v182 : BitVec 32 := Scalar.muli v10 c1_i32_191
  let v183 : BitVec 32 := Scalar.addi c0_i32_192 v182
  v183.toNat
def k0_dev5 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_200 : BitVec 32 := 1#32
  let v191 : BitVec 32 := Scalar.muli v10 c1_i32_200
  let v192 : BitVec 32 := Scalar.addi c0_i32_201 v191
  v192.toNat
def k0_off2 (d0 : Dev nD) (c0_i32_205 : BitVec 32) : Fin 2 → Nat :=
  let c1_i32_177 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let v168 : BitVec 32 := Scalar.subi c1_i32_177 v6
  let c512_i32_178 : BitVec 32 := 512#32
  let v169 : BitVec 32 := Scalar.muli v168 c512_i32_178
  let v199 : BitVec 32 := Scalar.addi v169 c0_i32_205
  let c384_i32 : BitVec 32 := 384#32
  ![v199.toNat, 384]
def k0_dev6 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_209 : BitVec 32 := 1#32
  let v200 : BitVec 32 := Scalar.muli v14 c1_i32_209
  let v201 : BitVec 32 := Scalar.addi c0_i32_210 v200
  v201.toNat
def k0_dev7 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_216 : BitVec 32 := 1#32
  let v209 : BitVec 32 := Scalar.muli v14 c1_i32_216
  let v210 : BitVec 32 := Scalar.addi c0_i32_217 v209
  v210.toNat
def k0_off3 (d0 : Dev nD) (c0_i32_221 : BitVec 32) : Fin 2 → Nat :=
  let c1_i32_183 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let v176 : BitVec 32 := Scalar.subi c1_i32_183 v9
  let c512_i32_184 : BitVec 32 := 512#32
  let v177 : BitVec 32 := Scalar.muli v176 c512_i32_184
  let v217 : BitVec 32 := Scalar.addi v177 c0_i32_221
  let c768_i32 : BitVec 32 := 768#32
  ![v217.toNat, 768]
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_224 : BitVec 32 := 1#32
  let v218 : BitVec 32 := Scalar.muli v18 c1_i32_224
  let v219 : BitVec 32 := Scalar.addi c0_i32_225 v218
  v219.toNat
def k0_dev9 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_231 : BitVec 32 := 1#32
  let v227 : BitVec 32 := Scalar.muli v18 c1_i32_231
  let v228 : BitVec 32 := Scalar.addi c0_i32_232 v227
  v228.toNat
def k0_off4 (d0 : Dev nD) (c0_i32_251 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let v245 : BitVec 32 := Scalar.addi v157 c0_i32_251
  let v246 : Index := Scalar.indexCast v245
  let c0_252 : Index := 0#32
  ![v246.toNat, 0]
def k0_off5 (d0 : Dev nD) (c0_i32_275 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let c1_i32_173 : BitVec 32 := 1#32
  let c1_i32_1 : BitVec 32 := 1#32
  let v5 : BitVec 32 := Scalar.shrui v2 c1_i32_1
  let c1_i32_2 : BitVec 32 := 1#32
  let v6 : BitVec 32 := Scalar.andi v5 c1_i32_2
  let v162 : BitVec 32 := Scalar.subi c1_i32_173 v6
  let c256_i32_174 : BitVec 32 := 256#32
  let v163 : BitVec 32 := Scalar.muli v162 c256_i32_174
  let v164 : BitVec 32 := Scalar.addi v157 v163
  let v273 : BitVec 32 := Scalar.addi v164 c0_i32_275
  let c0_i32_283 : BitVec 32 := 0#32
  ![v273.toNat, 0]
def k0_dev10 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_279 : BitVec 32 := 1#32
  let v274 : BitVec 32 := Scalar.muli v14 c1_i32_279
  let v275 : BitVec 32 := Scalar.addi c0_i32_280 v274
  v275.toNat
def k0_dev11 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_287 : BitVec 32 := 1#32
  let v283 : BitVec 32 := Scalar.muli v14 c1_i32_287
  let v284 : BitVec 32 := Scalar.addi c0_i32_288 v283
  v284.toNat
def k0_off6 (d0 : Dev nD) (c0_i32_307 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let v301 : BitVec 32 := Scalar.addi v165 c0_i32_307
  let v302 : Index := Scalar.indexCast v301
  let c384 : Index := 384#32
  ![v302.toNat, 384]
def k0_off7 (d0 : Dev nD) (c0_i32_331 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let c1_i32_179 : BitVec 32 := 1#32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let v170 : BitVec 32 := Scalar.subi c1_i32_179 v9
  let c256_i32_180 : BitVec 32 := 256#32
  let v171 : BitVec 32 := Scalar.muli v170 c256_i32_180
  let v172 : BitVec 32 := Scalar.addi v165 v171
  let v329 : BitVec 32 := Scalar.addi v172 c0_i32_331
  let c384_i32_338 : BitVec 32 := 384#32
  ![v329.toNat, 384]
def k0_dev12 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_334 : BitVec 32 := 1#32
  let v330 : BitVec 32 := Scalar.muli v18 c1_i32_334
  let v331 : BitVec 32 := Scalar.addi c0_i32_335 v330
  v331.toNat
def k0_dev13 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_342 : BitVec 32 := 1#32
  let v339 : BitVec 32 := Scalar.muli v18 c1_i32_342
  let v340 : BitVec 32 := Scalar.addi c0_i32_343 v339
  v340.toNat
def k0_off8 (d0 : Dev nD) (c0_i32_362 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let v357 : BitVec 32 := Scalar.addi v173 c0_i32_362
  let v358 : Index := Scalar.indexCast v357
  let c768 : Index := 768#32
  ![v358.toNat, 768]
def k0_off9 (d0 : Dev nD) (c0_i32_386 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let c1_i32_185 : BitVec 32 := 1#32
  let c2_i32 : BitVec 32 := 2#32
  let v3 : BitVec 32 := Scalar.shrui v2 c2_i32
  let c1_i32_0 : BitVec 32 := 1#32
  let v4 : BitVec 32 := Scalar.andi v3 c1_i32_0
  let v178 : BitVec 32 := Scalar.subi c1_i32_185 v4
  let c256_i32_186 : BitVec 32 := 256#32
  let v179 : BitVec 32 := Scalar.muli v178 c256_i32_186
  let v180 : BitVec 32 := Scalar.addi v173 v179
  let v385 : BitVec 32 := Scalar.addi v180 c0_i32_386
  let c768_i32_393 : BitVec 32 := 768#32
  ![v385.toNat, 768]
def k0_dev14 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_389 : BitVec 32 := 1#32
  let v386 : BitVec 32 := Scalar.muli v10 c1_i32_389
  let v387 : BitVec 32 := Scalar.addi c0_i32_390 v386
  v387.toNat
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_397 : BitVec 32 := 1#32
  let v395 : BitVec 32 := Scalar.muli v10 c1_i32_397
  let v396 : BitVec 32 := Scalar.addi c0_i32_398 v395
  v396.toNat
def k0_off10 (d0 : Dev nD) (c0_i32_417 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let c1_i32_1 : BitVec 32 := 1#32
  let v5 : BitVec 32 := Scalar.shrui v2 c1_i32_1
  let c1_i32_2 : BitVec 32 := 1#32
  let v6 : BitVec 32 := Scalar.andi v5 c1_i32_2
  let c256_i32 : BitVec 32 := 256#32
  let v158 : BitVec 32 := Scalar.muli v6 c256_i32
  let v159 : BitVec 32 := Scalar.addi v157 v158
  let v413 : BitVec 32 := Scalar.addi v159 c0_i32_417
  let v414 : Index := Scalar.indexCast v413
  let c0_418 : Index := 0#32
  ![v414.toNat, 0]
def k0_off11 (d0 : Dev nD) (c0_i32_441 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let c1_i32_1 : BitVec 32 := 1#32
  let v5 : BitVec 32 := Scalar.shrui v2 c1_i32_1
  let c1_i32_2 : BitVec 32 := 1#32
  let v6 : BitVec 32 := Scalar.andi v5 c1_i32_2
  let c256_i32 : BitVec 32 := 256#32
  let v158 : BitVec 32 := Scalar.muli v6 c256_i32
  let v159 : BitVec 32 := Scalar.addi v157 v158
  let v441 : BitVec 32 := Scalar.addi v159 c0_i32_441
  let c0_i32_449 : BitVec 32 := 0#32
  ![v441.toNat, 0]
def k0_dev16 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_445 : BitVec 32 := 1#32
  let v442 : BitVec 32 := Scalar.muli v18 c1_i32_445
  let v443 : BitVec 32 := Scalar.addi c0_i32_446 v442
  v443.toNat
def k0_dev17 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_453 : BitVec 32 := 1#32
  let v451 : BitVec 32 := Scalar.muli v18 c1_i32_453
  let v452 : BitVec 32 := Scalar.addi c0_i32_454 v451
  v452.toNat
def k0_off12 (d0 : Dev nD) (c0_i32_473 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c256_i32_176 : BitVec 32 := 256#32
  let v166 : BitVec 32 := Scalar.muli v9 c256_i32_176
  let v167 : BitVec 32 := Scalar.addi v165 v166
  let v469 : BitVec 32 := Scalar.addi v167 c0_i32_473
  let v470 : Index := Scalar.indexCast v469
  let c384_474 : Index := 384#32
  ![v470.toNat, 384]
def k0_off13 (d0 : Dev nD) (c0_i32_498 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c256_i32_176 : BitVec 32 := 256#32
  let v166 : BitVec 32 := Scalar.muli v9 c256_i32_176
  let v167 : BitVec 32 := Scalar.addi v165 v166
  let v497 : BitVec 32 := Scalar.addi v167 c0_i32_498
  let c384_i32_505 : BitVec 32 := 384#32
  ![v497.toNat, 384]
def k0_dev18 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_501 : BitVec 32 := 1#32
  let v498 : BitVec 32 := Scalar.muli v10 c1_i32_501
  let v499 : BitVec 32 := Scalar.addi c0_i32_502 v498
  v499.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_509 : BitVec 32 := 1#32
  let v507 : BitVec 32 := Scalar.muli v10 c1_i32_509
  let v508 : BitVec 32 := Scalar.addi c0_i32_510 v507
  v508.toNat
def k0_off14 (d0 : Dev nD) (c0_i32_529 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let c2_i32 : BitVec 32 := 2#32
  let v3 : BitVec 32 := Scalar.shrui v2 c2_i32
  let c1_i32_0 : BitVec 32 := 1#32
  let v4 : BitVec 32 := Scalar.andi v3 c1_i32_0
  let c256_i32_182 : BitVec 32 := 256#32
  let v174 : BitVec 32 := Scalar.muli v4 c256_i32_182
  let v175 : BitVec 32 := Scalar.addi v173 v174
  let v525 : BitVec 32 := Scalar.addi v175 c0_i32_529
  let v526 : Index := Scalar.indexCast v525
  let c768_530 : Index := 768#32
  ![v526.toNat, 768]
def k0_off15 (d0 : Dev nD) (c0_i32_554 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let c2_i32 : BitVec 32 := 2#32
  let v3 : BitVec 32 := Scalar.shrui v2 c2_i32
  let c1_i32_0 : BitVec 32 := 1#32
  let v4 : BitVec 32 := Scalar.andi v3 c1_i32_0
  let c256_i32_182 : BitVec 32 := 256#32
  let v174 : BitVec 32 := Scalar.muli v4 c256_i32_182
  let v175 : BitVec 32 := Scalar.addi v173 v174
  let v553 : BitVec 32 := Scalar.addi v175 c0_i32_554
  let c768_i32_561 : BitVec 32 := 768#32
  ![v553.toNat, 768]
def k0_dev20 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_557 : BitVec 32 := 1#32
  let v554 : BitVec 32 := Scalar.muli v14 c1_i32_557
  let v555 : BitVec 32 := Scalar.addi c0_i32_558 v554
  v555.toNat
def k0_dev21 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_565 : BitVec 32 := 1#32
  let v563 : BitVec 32 := Scalar.muli v14 c1_i32_565
  let v564 : BitVec 32 := Scalar.addi c0_i32_566 v563
  v564.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let c1_i32_1 : BitVec 32 := 1#32
  let v5 : BitVec 32 := Scalar.shrui v2 c1_i32_1
  let c1_i32_2 : BitVec 32 := 1#32
  let v6 : BitVec 32 := Scalar.andi v5 c1_i32_2
  let c256_i32 : BitVec 32 := 256#32
  let v158 : BitVec 32 := Scalar.muli v6 c256_i32
  let v159 : BitVec 32 := Scalar.addi v157 v158
  let v609 : Index := Scalar.indexCast v159
  let c0_610 : Index := 0#32
  ![v609.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let c1_i32_1 : BitVec 32 := 1#32
  let v5 : BitVec 32 := Scalar.shrui v2 c1_i32_1
  let c1_i32_2 : BitVec 32 := 1#32
  let v6 : BitVec 32 := Scalar.andi v5 c1_i32_2
  let c256_i32 : BitVec 32 := 256#32
  let v158 : BitVec 32 := Scalar.muli v6 c256_i32
  let v159 : BitVec 32 := Scalar.addi v157 v158
  let c0_i32_613 : BitVec 32 := 0#32
  let v614 : BitVec 32 := Scalar.addi v159 c0_i32_613
  let c0_i32_618 : BitVec 32 := 0#32
  ![v614.toNat, 0]
def k0_dev22 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_616 : BitVec 32 := 1#32
  let v615 : BitVec 32 := Scalar.muli v14 c1_i32_616
  let v616 : BitVec 32 := Scalar.addi c0_i32_617 v615
  v616.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c256_i32_176 : BitVec 32 := 256#32
  let v166 : BitVec 32 := Scalar.muli v9 c256_i32_176
  let v167 : BitVec 32 := Scalar.addi v165 v166
  let v661 : Index := Scalar.indexCast v167
  let c384_660 : Index := 384#32
  ![v661.toNat, 384]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c256_i32_176 : BitVec 32 := 256#32
  let v166 : BitVec 32 := Scalar.muli v9 c256_i32_176
  let v167 : BitVec 32 := Scalar.addi v165 v166
  let c0_i32_663 : BitVec 32 := 0#32
  let v666 : BitVec 32 := Scalar.addi v167 c0_i32_663
  let c384_i32_668 : BitVec 32 := 384#32
  ![v666.toNat, 384]
def k0_dev23 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_666 : BitVec 32 := 1#32
  let v667 : BitVec 32 := Scalar.muli v18 c1_i32_666
  let v668 : BitVec 32 := Scalar.addi c0_i32_667 v667
  v668.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let c2_i32 : BitVec 32 := 2#32
  let v3 : BitVec 32 := Scalar.shrui v2 c2_i32
  let c1_i32_0 : BitVec 32 := 1#32
  let v4 : BitVec 32 := Scalar.andi v3 c1_i32_0
  let c256_i32_182 : BitVec 32 := 256#32
  let v174 : BitVec 32 := Scalar.muli v4 c256_i32_182
  let v175 : BitVec 32 := Scalar.addi v173 v174
  let v713 : Index := Scalar.indexCast v175
  let c768_710 : Index := 768#32
  ![v713.toNat, 768]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let c2_i32 : BitVec 32 := 2#32
  let v3 : BitVec 32 := Scalar.shrui v2 c2_i32
  let c1_i32_0 : BitVec 32 := 1#32
  let v4 : BitVec 32 := Scalar.andi v3 c1_i32_0
  let c256_i32_182 : BitVec 32 := 256#32
  let v174 : BitVec 32 := Scalar.muli v4 c256_i32_182
  let v175 : BitVec 32 := Scalar.addi v173 v174
  let c0_i32_713 : BitVec 32 := 0#32
  let v718 : BitVec 32 := Scalar.addi v175 c0_i32_713
  let c768_i32_718 : BitVec 32 := 768#32
  ![v718.toNat, 768]
def k0_dev24 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_716 : BitVec 32 := 1#32
  let v719 : BitVec 32 := Scalar.muli v10 c1_i32_716
  let v720 : BitVec 32 := Scalar.addi c0_i32_717 v719
  v720.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrui v2 c2_i32
  let c1_i32_0 : BitVec 32 := 1#32
  let v4 : BitVec 32 := Scalar.andi v3 c1_i32_0
  let c512_i32 : BitVec 32 := 512#32
  let v157 : BitVec 32 := Scalar.muli v4 c512_i32
  let c0_i32_734 : BitVec 32 := 0#32
  let v738 : BitVec 32 := Scalar.addi v157 c0_i32_734
  let c0_i32_739 : BitVec 32 := 0#32
  ![v738.toNat, 0]
def k0_dev25 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_737 : BitVec 32 := 1#32
  let v739 : BitVec 32 := Scalar.muli v10 c1_i32_737
  let v740 : BitVec 32 := Scalar.addi c0_i32_738 v739
  v740.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrui v2 c1_i32_1
  let c1_i32_2 : BitVec 32 := 1#32
  let v6 : BitVec 32 := Scalar.andi v5 c1_i32_2
  let c512_i32_175 : BitVec 32 := 512#32
  let v165 : BitVec 32 := Scalar.muli v6 c512_i32_175
  let c0_i32_755 : BitVec 32 := 0#32
  let v758 : BitVec 32 := Scalar.addi v165 c0_i32_755
  let c384_i32_760 : BitVec 32 := 384#32
  ![v758.toNat, 384]
def k0_dev26 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v11 : BitVec 32 := Scalar.andi v2 c4_i32_5
  let c3_i32 : BitVec 32 := 3#32
  let v12 : BitVec 32 := Scalar.andi v2 c3_i32
  let c3_i32_6 : BitVec 32 := 3#32
  let v13 : BitVec 32 := Scalar.xori v12 c3_i32_6
  let v14 : BitVec 32 := Scalar.ori v11 v13
  let c1_i32_758 : BitVec 32 := 1#32
  let v759 : BitVec 32 := Scalar.muli v14 c1_i32_758
  let v760 : BitVec 32 := Scalar.addi c0_i32_759 v759
  v760.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrui v2 c1_i32_3
  let v8 : BitVec 32 := Scalar.xori v2 v7
  let c1_i32_4 : BitVec 32 := 1#32
  let v9 : BitVec 32 := Scalar.andi v8 c1_i32_4
  let c512_i32_181 : BitVec 32 := 512#32
  let v173 : BitVec 32 := Scalar.muli v9 c512_i32_181
  let c0_i32_776 : BitVec 32 := 0#32
  let v778 : BitVec 32 := Scalar.addi v173 c0_i32_776
  let c768_i32_781 : BitVec 32 := 768#32
  ![v778.toNat, 768]
def k0_dev27 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v15 : BitVec 32 := Scalar.andi v2 c4_i32_7
  let c3_i32_8 : BitVec 32 := 3#32
  let v16 : BitVec 32 := Scalar.andi v2 c3_i32_8
  let c1_i32_9 : BitVec 32 := 1#32
  let v17 : BitVec 32 := Scalar.xori v16 c1_i32_9
  let v18 : BitVec 32 := Scalar.ori v15 v17
  let c1_i32_779 : BitVec 32 := 1#32
  let v779 : BitVec 32 := Scalar.muli v18 c1_i32_779
  let v780 : BitVec 32 := Scalar.addi c0_i32_780 v779
  v780.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x32768 : Shape := ⟨2, ![1024, 32768]⟩
abbrev S32768x1024 : Shape := ⟨2, ![32768, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S1024x32768, .f32⟩
  | .hbm, ⟨2, _⟩ => ⟨S1024x32768, .bf16⟩
  | .hbm, ⟨3, _⟩ => ⟨S1024x32768, .bf16⟩
  | .hbm, ⟨4, _⟩ => ⟨S32768x1024, .bf16⟩
  | .hbm, ⟨5, _⟩ => ⟨S1024x1024, .f32⟩
  | .hbm, ⟨6, _⟩ => ⟨S1024x1024, .bf16⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Steps.lean ====
/- The kernel's exchange as a program of named steps. A device's tables (which rows a transfer reads,
   which rows an addition updates, which device a transfer goes to) are the printed offsets and device
   words, indexed by the column slab `s` and the transfer `k` of the slab: transfers 0-1, 2-3, 4-5 are the
   two halves of the three reduce steps, 6 and 7 the two gather steps. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Cube

open Cert.KernelIdeal Cert.KernelIdeal.Gen
open Idealize.ShloMosaic Idealize.ShloMosaic.TcCoe
open Idealize.SL Idealize.SL.Sem

variable {F : FTy → Type} [FloatOps F]

/-! ## Sizes -/

/-- The columns of slab `s`: how many, and from which one. -/
abbrev cw : Fin 3 → ℕ := ![384, 384, 256]
abbrev c0 : Fin 3 → ℕ := ![0, 384, 768]
/-- The rows transfer `k` moves. -/
abbrev hr : Fin 8 → ℕ := ![256, 256, 128, 128, 128, 128, 256, 512]
/-- The rows of one half of reduce step `t`. -/
abbrev hh : Fin 3 → ℕ := ![256, 128, 128]
/-- The rows of the landing buffer of reduce step `t`. -/
abbrev bh : Fin 3 → ℕ := ![512, 256, 256]
/-- The number of reduce step `t`'s half `h` among the slab's transfers. -/
abbrev kk (t : Fin 3) (h : Fin 2) : Fin 8 := ⟨2 * t.val + h.val, by omega⟩

/-- The block a transfer moves. -/
abbrev T (s : Fin 3) (k : Fin 8) : Shape := ⟨2, ![hr k, cw s]⟩

/-! ## The printed offsets and devices, by slab and transfer -/

/-- Where transfer `k` of slab `s` reads on device `c`. -/
def soff (c : Dev nD) : Fin 3 → Fin 8 → (Fin 2 → ℕ)
  | 0, 0 => k0_off1 c 0#32 | 0, 1 => k0_off1 c 256#32
  | 0, 2 => k0_off5 c 0#32 | 0, 3 => k0_off5 c 128#32
  | 0, 4 => k0_off11 c 0#32 | 0, 5 => k0_off11 c 128#32
  | 0, 6 => k0_off17 c | 0, 7 => k0_off22 c
  | 1, 0 => k0_off2 c 0#32 | 1, 1 => k0_off2 c 256#32
  | 1, 2 => k0_off7 c 0#32 | 1, 3 => k0_off7 c 128#32
  | 1, 4 => k0_off13 c 0#32 | 1, 5 => k0_off13 c 128#32
  | 1, 6 => k0_off19 c | 1, 7 => k0_off23 c
  | 2, 0 => k0_off3 c 0#32 | 2, 1 => k0_off3 c 256#32
  | 2, 2 => k0_off9 c 0#32 | 2, 3 => k0_off9 c 128#32
  | 2, 4 => k0_off15 c 0#32 | 2, 5 => k0_off15 c 128#32
  | 2, 6 => k0_off21 c | 2, 7 => k0_off24 c

/-- Where half `h` of reduce step `t` adds on device `c`. -/
def aoff (c : Dev nD) : Fin 3 → Fin 3 → Fin 2 → (Fin 2 → ℕ)
  | 0, 0, 0 => k0_off4 c 0#32 | 0, 0, 1 => k0_off4 c 256#32
  | 0, 1, 0 => k0_off10 c 0#32 | 0, 1, 1 => k0_off10 c 128#32
  | 0, 2, 0 => k0_off10 c 0#32 | 0, 2, 1 => k0_off10 c 128#32
  | 1, 0, 0 => k0_off6 c 0#32 | 1, 0, 1 => k0_off6 c 256#32
  | 1, 1, 0 => k0_off12 c 0#32 | 1, 1, 1 => k0_off12 c 128#32
  | 1, 2, 0 => k0_off12 c 0#32 | 1, 2, 1 => k0_off12 c 128#32
  | 2, 0, 0 => k0_off8 c 0#32 | 2, 0, 1 => k0_off8 c 256#32
  | 2, 1, 0 => k0_off14 c 0#32 | 2, 1, 1 => k0_off14 c 128#32
  | 2, 2, 0 => k0_off14 c 0#32 | 2, 2, 1 => k0_off14 c 128#32

/-- Where the finished rows of slab `s` are copied to the result. -/
def ooff (c : Dev nD) : Fin 3 → (Fin 2 → ℕ)
  | 0 => k0_off16 c | 1 => k0_off18 c | 2 => k0_off20 c

/-- The device transfer `k` of slab `s` goes to. -/
def sdev (c : Dev nD) : Fin 3 → Fin 8 → Dev nD
  | 0, 0 => ⟨k0_dev4 c, k0_dev4_lt c⟩ | 0, 1 => ⟨k0_dev5 c, k0_dev5_lt c⟩
  | 1, 0 => ⟨k0_dev6 c, k0_dev6_lt c⟩ | 1, 1 => ⟨k0_dev7 c, k0_dev7_lt c⟩
  | 2, 0 => ⟨k0_dev8 c, k0_dev8_lt c⟩ | 2, 1 => ⟨k0_dev9 c, k0_dev9_lt c⟩
  | 0, 2 => ⟨k0_dev10 c, k0_dev10_lt c⟩ | 0, 3 => ⟨k0_dev11 c, k0_dev11_lt c⟩
  | 1, 2 => ⟨k0_dev12 c, k0_dev12_lt c⟩ | 1, 3 => ⟨k0_dev13 c, k0_dev13_lt c⟩
  | 2, 2 => ⟨k0_dev14 c, k0_dev14_lt c⟩ | 2, 3 => ⟨k0_dev15 c, k0_dev15_lt c⟩
  | 0, 4 => ⟨k0_dev16 c, k0_dev16_lt c⟩ | 0, 5 => ⟨k0_dev17 c, k0_dev17_lt c⟩
  | 1, 4 => ⟨k0_dev18 c, k0_dev18_lt c⟩ | 1, 5 => ⟨k0_dev19 c, k0_dev19_lt c⟩
  | 2, 4 => ⟨k0_dev20 c, k0_dev20_lt c⟩ | 2, 5 => ⟨k0_dev21 c, k0_dev21_lt c⟩
  | 0, 6 => ⟨k0_dev22 c, k0_dev22_lt c⟩ | 1, 6 => ⟨k0_dev23 c, k0_dev23_lt c⟩ | 2, 6 => ⟨k0_dev24 c, k0_dev24_lt c⟩
  | 0, 7 => ⟨k0_dev25 c, k0_dev25_lt c⟩ | 1, 7 => ⟨k0_dev26 c, k0_dev26_lt c⟩ | 2, 7 => ⟨k0_dev27 c, k0_dev27_lt c⟩

theorem soff_inb : ∀ (c : Dev nD) (s : Fin 3) (k : Fin 8) (a : Fin 2), soff c s k a + (T s k).size a ≤ S1024x1024.size a := by
  decide +kernel

theorem aoff_inb : ∀ (c : Dev nD) (s : Fin 3) (t : Fin 3) (h : Fin 2) (a : Fin 2),
    aoff c s t h a + (T s (kk t h)).size a ≤ S1024x1024.size a := by decide +kernel

theorem ooff_inb : ∀ (c : Dev nD) (s : Fin 3) (a : Fin 2), ooff c s a + (T s 6).size a ≤ S1024x1024.size a := by
  decide +kernel

theorem soff_words : ∀ (c : Dev nD) (s : Fin 3) (k : Fin 8),
    (Rect.unit (s := S1024x1024) (soff c s k) (T s k).size (soff_inb c s k)).WholeWords (EltTy.packing .bf16) := by
  decide +kernel

theorem aoff_packed : ∀ (c : Dev nD) (s : Fin 3) (t : Fin 3) (h : Fin 2),
    (Rect.unit (s := S1024x1024) (aoff c s t h) (T s (kk t h)).size (aoff_inb c s t h)).PackedRows (EltTy.packing .bf16) := by
  decide +kernel

theorem ooff_packed : ∀ (c : Dev nD) (s : Fin 3),
    (Rect.unit (s := S1024x1024) (ooff c s) (T s 6).size (ooff_inb c s)).PackedRows (EltTy.packing .bf16) := by
  decide +kernel

/-! ## Buffers and semaphores -/

abbrev accM : Memref sig .tc .vmem S1024x1024 .bf16 := Memref.whole cc0_scratch1
abbrev outM : Memref sig .tc .vmem S1024x1024 .bf16 := Memref.whole cc0_stg0_0

/-- The landing buffer of reduce step `t` of slab `s`. -/
def bufM : (s : Fin 3) → (t : Fin 3) → Memref sig .tc .vmem ⟨2, ![bh t, cw s]⟩ .bf16
  | 0, 0 => Memref.whole cc0_scratch4 | 0, 1 => Memref.whole cc0_scratch5 | 0, 2 => Memref.whole cc0_scratch6
  | 1, 0 => Memref.whole cc0_scratch7 | 1, 1 => Memref.whole cc0_scratch8 | 1, 2 => Memref.whole cc0_scratch9
  | 2, 0 => Memref.whole cc0_scratch10 | 2, 1 => Memref.whole cc0_scratch11 | 2, 2 => Memref.whole cc0_scratch12

abbrev boff (t : Fin 3) (h : Fin 2) : Fin 2 → ℕ := ![h.val * hh t, 0]

theorem boff_inb : ∀ (s : Fin 3) (t : Fin 3) (h : Fin 2) (a : Fin 2),
    boff t h a + (T s (kk t h)).size a ≤ (⟨2, ![bh t, cw s]⟩ : Shape).size a := by decide

/-- Half `h` of a landing buffer. -/
abbrev brect (s : Fin 3) (t : Fin 3) (h : Fin 2) : Rect (⟨2, ![bh t, cw s]⟩ : Shape) :=
  Rect.unit (s := ⟨2, ![bh t, cw s]⟩) (boff t h) (T s (kk t h)).size (boff_inb s t h)

def bufSl (s : Fin 3) (t : Fin 3) (h : Fin 2) : Memref sig .tc .vmem (T s (kk t h)) .bf16 :=
  (bufM s t).slice (brect s t h) (fun _ => rfl)

/-- The rows transfer `k` reads, as a rectangle of the big arrays. -/
abbrev srect (c : Dev nD) (s : Fin 3) (k : Fin 8) : Rect S1024x1024 :=
  Rect.unit (s := S1024x1024) (soff c s k) (T s k).size (soff_inb c s k)
abbrev arect (c : Dev nD) (s : Fin 3) (t : Fin 3) (h : Fin 2) : Rect S1024x1024 :=
  Rect.unit (s := S1024x1024) (aoff c s t h) (T s (kk t h)).size (aoff_inb c s t h)
abbrev orect (c : Dev nD) (s : Fin 3) : Rect S1024x1024 :=
  Rect.unit (s := S1024x1024) (ooff c s) (T s 6).size (ooff_inb c s)

/-- What transfer `k` reads on device `c`: rows of the accumulator, or of the result. -/
def src (c : Dev nD) (s : Fin 3) : (k : Fin 8) → Memref sig .tc .vmem (T s k) .bf16
  | 0 => accM.slice (srect c s 0) (fun _ => rfl) | 1 => accM.slice (srect c s 1) (fun _ => rfl)
  | 2 => accM.slice (srect c s 2) (fun _ => rfl) | 3 => accM.slice (srect c s 3) (fun _ => rfl)
  | 4 => accM.slice (srect c s 4) (fun _ => rfl) | 5 => accM.slice (srect c s 5) (fun _ => rfl)
  | 6 => outM.slice (srect c s 6) (fun _ => rfl) | 7 => outM.slice (srect c s 7) (fun _ => rfl)

/-- Where device `c`'s transfer `k` lands on the device it goes to. -/
def dst (c : Dev nD) (s : Fin 3) : (k : Fin 8) → Memref sig .tc .vmem (T s k) .bf16
  | 0 => bufSl s 0 0 | 1 => bufSl s 0 1 | 2 => bufSl s 1 0 | 3 => bufSl s 1 1 | 4 => bufSl s 2 0 | 5 => bufSl s 2 1
  | 6 => outM.slice (srect c s 6) (fun _ => rfl) | 7 => outM.slice (srect c s 7) (fun _ => rfl)

/-- Which half of its step a transfer is. -/
abbrev hf : Fin 8 → Fin 2 := ![0, 1, 0, 1, 0, 1, 0, 0]
/-- Which step of the slab a transfer belongs to. -/
abbrev st : Fin 8 → Fin 5 := ![0, 0, 1, 1, 2, 2, 3, 4]

theorem inb32 : ∀ (s : Fin 3) (h : Fin 2) (a : Fin 2), (![s.val, h.val] : Fin 2 → ℕ) a + S1x1.size a ≤ S3x2.size a := by decide
theorem inb24 : ∀ (s : Fin 3) (k : Fin 8) (a : Fin 1), (![8 * s.val + k.val] : Fin 1 → ℕ) a + S1.size a ≤ S24.size a := by decide

/-- The semaphore a slab's half waits on for its own sends, and the one transfer `k` is received on. -/
def sndS (s : Fin 3) (h : Fin 2) : DmaSem sig :=
  ((cc0_scratch14.slice (Rect.unit (s := S3x2) ![s.val, h.val] S1x1.size (inb32 s h))).squeeze S_ squeezes_S1x1_S_).sem
def rcvS (s : Fin 3) (k : Fin 8) : DmaSem sig :=
  ((cc0_scratch15.slice (Rect.unit (s := S24) ![8 * s.val + k.val] S1.size (inb24 s k))).squeeze S_ squeezes_S1_S_).sem

theorem src_words : ∀ (c : Dev nD) (s : Fin 3) (k : Fin 8), (src c s k).view.WordExact := by
  intro c s k
  fin_cases k
  all_goals first
    | exact (Memref.isWhole_whole cc0_scratch1).wordExact_slice rfl _ (soff_words c s _)
    | exact (Memref.isWhole_whole cc0_stg0_0).wordExact_slice rfl _ (soff_words c s _)

theorem brect_words : ∀ (s : Fin 3) (t : Fin 3) (h : Fin 2), (brect s t h).WholeWords (EltTy.packing .bf16) := by decide +kernel

theorem bufSl_words (s : Fin 3) (t : Fin 3) (h : Fin 2) : (bufSl s t h).view.WordExact := by
  have := brect_words s t h
  fin_cases s <;> fin_cases t <;> exact (Memref.isWhole_whole _).wordExact_slice rfl _ this

theorem dst_words : ∀ (c : Dev nD) (s : Fin 3) (k : Fin 8), (dst c s k).view.WordExact := by
  intro c s k
  fin_cases k
  all_goals first
    | exact bufSl_words s _ _
    | exact (Memref.isWhole_whole cc0_stg0_0).wordExact_slice rfl _ (soff_words c s _)

/-! ## The steps -/

/-- Transfer `k` of slab `s` is started. -/
def send (c : Dev nD) (s : Fin 3) (k : Fin 8) : Prog (TpuEff nD τ sig (Elt F) Λ₀ .tc) PUnit :=
  Prog.lift (.enqueueDma (src c s k) (.remote (Dev.tc (sdev c s k)) (dst c s k) (.dma (sndS s (hf k)))) (.dma (rcvS s k))
    (src_words c s k) (dst_words c s k) ⟨⟨rfl, Or.inl rfl⟩, trivial⟩)

/-- The device waits for its own transfer `k` to have left and for its neighbour's to have arrived. -/
def await (c : Dev nD) (s : Fin 3) (k : Fin 8) : Prog (TpuEff nD τ sig (Elt F) Λ₀ .tc) PUnit := do
  Prog.lift (.waitDma2 (sndS s (hf k)) (dst c s k) (src c s k) (dst_words c s k) (src_words c s k))
  Prog.lift (.waitDma2 (rcvS s k) (src c s k) (dst c s k) (src_words c s k) (dst_words c s k))

theorem pos_T : ∀ (s : Fin 3) (k : Fin 8), 0 < (T s k).numel := by decide

/-- Half `h` of reduce step `t`: what arrived is added to the device's own rows. -/
def add (c : Dev nD) (s : Fin 3) (t : Fin 3) (h : Fin 2) : Prog (TpuEff nD τ sig (Elt F) Λ₀ .tc) PUnit := do
  let v : Vec F (T s (kk t h)) .bf16 ← Prog.lift (.load accM (arect c s t h).toLoadRect (View.loadsAt_vmem (pos_T s (kk t h))))
  let w : Vec F (T s (kk t h)) .bf16 ← Prog.lift (.load (bufM s t) (brect s t h).toLoadRect (View.loadsAt_vmem (pos_T s (kk t h))))
  let u : Vec F (T s (kk t h)) .bf16 ← Prog.lift (.load accM (arect c s t h).toLoadRect (View.loadsAt_vmem (pos_T s (kk t h))))
  Prog.lift (.store accM (arect c s t h) (shapeCast (T s (kk t h)) (addf v w) rfl) Finset.univ
    (View.stores_vmem (pos_T s (kk t h)) ((Memref.isWhole_whole cc0_scratch1).storeExact_slice rfl _ (aoff_packed c s t h)) (fun _ => rfl)) (.inl rfl))

/-- The finished rows of slab `s` go to the result. -/
def copy (c : Dev nD) (s : Fin 3) : Prog (TpuEff nD τ sig (Elt F) Λ₀ .tc) PUnit := do
  let v : Vec F (T s 6) .bf16 ← Prog.lift (.load accM (orect c s).toLoadRect (View.loadsAt_vmem (pos_T s 6)))
  let u : Vec F (T s 6) .bf16 ← Prog.lift (.load outM (orect c s).toLoadRect (View.loadsAt_vmem (pos_T s 6)))
  Prog.lift (.store outM (orect c s) v Finset.univ
    (View.stores_vmem (pos_T s 6) ((Memref.isWhole_whole cc0_stg0_0).storeExact_slice rfl _ (ooff_packed c s)) (fun _ => rfl)) (.inl rfl))

/-- Both halves of reduce step `t` are started; are awaited and added. -/
def issue (c : Dev nD) (s : Fin 3) (t : Fin 3) : Prog (TpuEff nD τ sig (Elt F) Λ₀ .tc) PUnit := do
  send c s (kk t 0)
  send c s (kk t 1)
def complete (c : Dev nD) (s : Fin 3) (t : Fin 3) : Prog (TpuEff nD τ sig (Elt F) Λ₀ .tc) PUnit := do
  await c s (kk t 0)
  add c s t 0
  await c s (kk t 1)
  add c s t 1

/-! ## The local product -/

abbrev aM : Memref sig .tc .hbm S1024x4096 .f32 := Memref.whole main_arg0
abbrev bM : Memref sig .tc .hbm S1024x4096 .f32 := Memref.whole main_arg1
abbrev sumM : Memref sig .tc .vmem S1024x1024 .f32 := Memref.whole cc0_scratch0
abbrev aS : Memref sig .tc .vmem S2x1024x1024 .f32 := Memref.whole cc0_scratch2
abbrev bS : Memref sig .tc .vmem S2x1024x1024 .f32 := Memref.whole cc0_scratch3

theorem inb_col : ∀ (k : Fin 4) (a : Fin 2), (![0, 1024 * k.val] : Fin 2 → ℕ) a + S1024x1024.size a ≤ S1024x4096.size a := by decide
theorem inb_slot : ∀ (j : Fin 2) (a : Fin 3), (![j.val, 0, 0] : Fin 3 → ℕ) a + S1x1024x1024.size a ≤ S2x1024x1024.size a := by decide
theorem inb22 : ∀ (j b : Fin 2) (a : Fin 2), (![j.val, b.val] : Fin 2 → ℕ) a + S1x1.size a ≤ S2x2.size a := by decide

/-- Columns block `k` of an argument; slot `j` of a staging buffer; their semaphore. -/
abbrev colB (m : Memref sig .tc .hbm S1024x4096 .f32) (k : Fin 4) : Memref sig .tc .hbm S1024x1024 .f32 :=
  m.slice (Rect.unit (s := S1024x4096) ![0, 1024 * k.val] S1024x1024.size (inb_col k)) (fun _ => rfl)
abbrev srectS (j : Fin 2) : Rect S2x1024x1024 := Rect.unit (s := S2x1024x1024) ![j.val, 0, 0] S1x1024x1024.size (inb_slot j)
abbrev slotB (m : Memref sig .tc .vmem S2x1024x1024 .f32) (j : Fin 2) : Memref sig .tc .vmem S1024x1024 .f32 :=
  (m.slice (srectS j) (fun _ => rfl)).squeeze S1024x1024 squeezes_S1x1024x1024_S1024x1024
abbrev inS (j b : Fin 2) : DmaSem sig :=
  ((cc0_scratch13.slice (Rect.unit (s := S2x2) ![j.val, b.val] S1x1.size (inb22 j b))).squeeze S_ squeezes_S1x1_S_).sem

/-- Block `k` of both arguments is fetched into slot `j`; is waited for there. -/
def fetch (j : Fin 2) (k : Fin 4) : Prog (TpuEff nD τ sig (Elt F) Λ₀ .tc) PUnit := do
  Prog.lift (.enqueueDma (colB aM k) (.here (slotB aS j)) (.dma (inS j 0)) (View.wordExact_bits rfl) ((View.wordExact_bits rfl).reshape _ _) ⟨Or.inl rfl, trivial⟩)
  Prog.lift (.enqueueDma (colB bM k) (.here (slotB bS j)) (.dma (inS j 1)) (View.wordExact_bits rfl) ((View.wordExact_bits rfl).reshape _ _) ⟨Or.inl rfl, trivial⟩)
def ready (j : Fin 2) (k : Fin 4) : Prog (TpuEff nD τ sig (Elt F) Λ₀ .tc) PUnit := do
  Prog.lift (.waitDma2 (inS j 0) (colB aM k) (slotB aS j) (View.wordExact_bits rfl) ((View.wordExact_bits rfl).reshape _ _))
  Prog.lift (.waitDma2 (inS j 1) (colB bM k) (slotB bS j) (View.wordExact_bits rfl) ((View.wordExact_bits rfl).reshape _ _))

/-- The rectangle that is a whole big array. -/
abbrev rall : Rect S1024x1024 := Rect.unit (s := S1024x1024) ![0, 0] S1024x1024.size inb_S1024x1024_S1024x1024_0_0

/-- The first block's product replaces the sum; a later block's product is added to it. -/
def first : Prog (TpuEff nD τ sig (Elt F) Λ₀ .tc) PUnit := do
  let v : Vec F S1x1024x1024 .f32 ← Prog.lift (.load aS (srectS 0).toLoadRect (View.loadsAt_vmem h_S1x1024x1024))
  let w : Vec F S1x1024x1024 .f32 ← Prog.lift (.load bS (srectS 0).toLoadRect (View.loadsAt_vmem h_S1x1024x1024))
  let u : Vec F S1024x1024 .f32 ← Prog.lift (.load sumM rall.toLoadRect (View.loadsAt_vmem h_S1024x1024))
  Prog.lift (.store sumM rall (k0_pay2 (k0_pay1 v) w) Finset.univ (View.stores_vmem_bits_univ h_S1024x1024 rfl) (.inl rfl))
def more (j : Fin 2) : Prog (TpuEff nD τ sig (Elt F) Λ₀ .tc) PUnit := do
  let v : Vec F S1x1024x1024 .f32 ← Prog.lift (.load aS (srectS j).toLoadRect (View.loadsAt_vmem h_S1x1024x1024))
  let w : Vec F S1x1024x1024 .f32 ← Prog.lift (.load bS (srectS j).toLoadRect (View.loadsAt_vmem h_S1x1024x1024))
  let x : Vec F S1024x1024 .f32 ← Prog.lift (.load sumM rall.toLoadRect (View.loadsAt_vmem h_S1024x1024))
  let u : Vec F S1024x1024 .f32 ← Prog.lift (.load sumM rall.toLoadRect (View.loadsAt_vmem h_S1024x1024))
  Prog.lift (.store sumM rall (k0_pay3 v w x) Finset.univ (View.stores_vmem_bits_univ h_S1024x1024 rfl) (.inl rfl))
/-- The rounded sum starts the exchange. -/
def round : Prog (TpuEff nD τ sig (Elt F) Λ₀ .tc) PUnit := do
  let v : Vec F S1024x1024 .f32 ← Prog.lift (.load sumM rall.toLoadRect (View.loadsAt_vmem h_S1024x1024))
  let u : Vec F S1024x1024 .bf16 ← Prog.lift (.load accM rall.toLoadRect (View.loadsAt_vmem h_S1024x1024))
  Prog.lift (.store accM rall (k0_pay6 v) Finset.univ (View.stores_vmem h_S1024x1024 ((Memref.isWhole_whole cc0_scratch1).storeExact_slice rfl _ packedbf16_S1024x1024_S1024x1024_0_0) (fun _ => rfl)) (.inl rfl))

def product : Prog (TpuEff nD τ sig (Elt F) Λ₀ .tc) PUnit := do
  fetch 0 0
  fetch 1 1
  ready 0 0
  first
  fetch 0 2
  ready 1 1
  more 1
  fetch 1 3
  ready 0 2
  more 0
  ready 1 3
  more 1
  round

/-! ## The whole body -/

/-- The neighbours are told this device has arrived, and are waited for. -/
def barrier (c : Dev nD) : Prog (TpuEff nD τ sig (Elt F) Λ₀ .tc) PUnit := do
  semSignalWord (⟨k0_dev1 c, k0_dev1_lt c⟩ : Dev nD) (sig.barrier 0 rfl) 1#32
  semSignalWord (⟨k0_dev2 c, k0_dev2_lt c⟩ : Dev nD) (sig.barrier 0 rfl) 1#32
  semSignalWord (⟨k0_dev3 c, k0_dev3_lt c⟩ : Dev nD) (sig.barrier 0 rfl) 1#32
  semWaitWord (sig.barrier 0 rfl) 3#32

def exchange (c : Dev nD) : Prog (TpuEff nD τ sig (Elt F) Λ₀ .tc) PUnit := do
  issue c 0 0
  issue c 1 0
  issue c 2 0
  complete c 0 0
  issue c 0 1
  complete c 1 0
  issue c 1 1
  complete c 2 0
  issue c 2 1
  complete c 0 1
  issue c 0 2
  complete c 1 1
  issue c 1 2
  complete c 2 1
  issue c 2 2
  complete c 0 2
  copy c 0
  send c 0 6
  complete c 1 2
  copy c 1
  send c 1 6
  complete c 2 2
  copy c 2
  send c 2 6
  await c 0 6
  send c 0 7
  await c 1 6
  send c 1 7
  await c 2 6
  send c 2 7
  await c 0 7
  await c 1 7
  await c 2 7

def steps : Prog (TpuEff nD τ sig (Elt F) Λ₀ .tc) PUnit := do
  let c : Dev nD ← Prog.lift .deviceId
  product
  barrier c
  exchange c

set_option maxRecDepth 65536 in
/-- The printed body is the steps. -/
theorem body_eq (t : Fin cfg0.N) : bodyAt0 (F := F) t = steps (F := F) := rfl

end Cert.Cube

end
-- ==== Proof.Held.lean ====
/- What a device holds of a buffer: a set of a memref's places, and what it reads there. Held places split
   and join; a slice owned is the slice's places held; a load reads what is held, a store replaces it. -/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own ghost state: rounds with three duty names, beside the staging's. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-- Device `c` holds the places `S` of `M`, and reads `g` there. -/
def held {sp : Space} {sh : Shape} {e : EltTy} (c : Dev nD) (M : Memref sig .tc sp sh e) (S : Finset sh.Idx) (g : sh.Idx → Elt F e) : sProp 𝕄 :=
  iprop(∃ f : Buf (Elt F) (M.view.loc (c : Thread nD τ)), ⌜∀ x ∈ S, M.view.read (Elt F) f x = g x⌝ ∗ (M.view.loc (c : Thread nD τ) ↦[M.view.setOn S]{fullShare} f))

section
variable {sp : Space} {sh : Shape} {e : EltTy} (c : Dev nD) (M : Memref sig .tc sp sh e)

theorem held_congr {S : Finset sh.Idx} {g g' : sh.Idx → Elt F e} (h : ∀ x ∈ S, g x = g' x) : held c M S g ⊢ held c M S g' := by
  unfold held
  iintro ⟨%f, %hf, H⟩
  iexists f
  isplitr; · ipureintro; exact fun x hx => (hf x hx).trans (h x hx)
  iexact H

theorem held_split {S A B : Finset sh.Idx} (hS : S = A ∪ B) (hd : Disjoint A B) (g : sh.Idx → Elt F e) :
    held c M S g ⊢ iprop(held c M A g ∗ held c M B g) := by
  subst hS
  unfold held
  iintro ⟨%f, %hf, H⟩
  ihave H := (Entails.of_eq (congrArg (fun I => (M.view.loc (c : Thread nD τ) ↦[I]{fullShare} f : sProp 𝕄))
    (show M.view.setOn (A ∪ B) = M.view.setOn A ∪ M.view.setOn B from Finset.map_union _ _))) $$ H
  ihave H := (pointsTo_union (Finset.disjoint_map M.view.emb |>.mpr hd)).1 $$ H
  icases H with ⟨HA, HB⟩
  isplitl [HA]
  · iexists f
    isplitr; · ipureintro; exact fun x hx => hf x (Finset.mem_union_left _ hx)
    iexact HA
  · iexists f
    isplitr; · ipureintro; exact fun x hx => hf x (Finset.mem_union_right _ hx)
    iexact HB

theorem held_join {S A B : Finset sh.Idx} (hS : S = A ∪ B) (hd : Disjoint A B) (g : sh.Idx → Elt F e) :
    iprop(held c M A g ∗ held c M B g) ⊢ held c M S g := by
  subst hS
  unfold held
  iintro ⟨⟨%f, %hf, HA⟩, %f', %hf', HB⟩
  iexists (M.view.setOn B).piecewise f' f
  isplitr
  · ipureintro
    intro x hx
    rw [View.read_apply]
    by_cases hB : x ∈ B
    · rw [Finset.piecewise_eq_of_mem _ _ _ (M.view.mem_setOn.mpr hB)]; exact hf' x hB
    · rw [Finset.piecewise_eq_of_notMem _ _ _ (fun h => hB (M.view.mem_setOn.mp h))]
      exact hf x ((Finset.mem_union.mp hx).resolve_right hB)
  · rw [show M.view.setOn (A ∪ B) = M.view.setOn A ∪ M.view.setOn B from Finset.map_union _ _]
    iapply (pointsTo_join (Finset.disjoint_map M.view.emb |>.mpr hd))
    isplitl [HA] <;> iassumption

/-- Owning a slice is holding its places. -/
theorem held_of_owns (r : Rect sh) (hr : ∀ a, r.stride a = 1) (g : sh.Idx → Elt F e) :
    owns (c : Thread nD τ) (M.slice r hr) fullShare (fun x => g (r.emb x)) ⊢ held c M r.set g := by
  unfold owns held
  iintro ⟨%f, %hf, H⟩
  iexists f
  isplitr
  · ipureintro
    intro x hx
    rw [← Rect.map_emb_univ] at hx
    obtain ⟨j, -, rfl⟩ := Finset.mem_map.mp hx
    exact congrFun hf j
  · iapply (Entails.of_eq (congrArg (fun I => (M.view.loc (c : Thread nD τ) ↦[I]{fullShare} f : sProp 𝕄)) (M.view.set_slice r)))
    iexact H

theorem owns_of_held (r : Rect sh) (hr : ∀ a, r.stride a = 1) (g : sh.Idx → Elt F e) :
    held c M r.set g ⊢ owns (c : Thread nD τ) (M.slice r hr) fullShare (fun x => g (r.emb x)) := by
  unfold owns held
  iintro ⟨%f, %hf, H⟩
  iexists f
  isplitr
  · ipureintro
    funext x
    exact hf (r.emb x) (by rw [← Rect.map_emb_univ]; exact Finset.mem_map_of_mem _ (Finset.mem_univ x))
  · iapply (Entails.of_eq (congrArg (fun I => (M.view.loc (c : Thread nD τ) ↦[I]{fullShare} f : sProp 𝕄)) (M.view.set_slice r).symm))
    iexact H

theorem held_univ (g : sh.Idx → Elt F e) : (held c M Finset.univ g : sProp 𝕄) = owns (c : Thread nD τ) M fullShare g := by
  have h1 : held c M Finset.univ g ⊢ (owns (c : Thread nD τ) M fullShare g : sProp 𝕄) := by
    unfold held owns
    iintro ⟨%f, %hf, H⟩
    iexists f
    isplitr; · ipureintro; exact funext fun x => hf x (Finset.mem_univ x)
    iexact H
  have h2 : (owns (c : Thread nD τ) M fullShare g : sProp 𝕄) ⊢ held c M Finset.univ g := by
    unfold held owns
    iintro ⟨%f, %hf, H⟩
    iexists f
    isplitr; · ipureintro; exact fun x _ => congrFun hf x
    iexact H
  exact BI.equiv_iff.mp ⟨h1, h2⟩

end

/-! ## Loads and stores of held places -/

section
variable {sh : Shape} {e : EltTy} (c : Dev nD) (M : Memref sig .tc .vmem sh e)

/-- Continuing with `k` on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem load_held {α : Type} {Q : α → sProp 𝕄} {S : Finset sh.Idx} {g : sh.Idx → Elt F e} {r : Rect sh} {hl : M.view.LoadsAt r.toLoadRect} (hS : r.set ⊆ S)
    {k : (r.shape.Idx → Elt F e) → Prog (TpuEff nD τ sig (Elt F) Λ₀ .tc) α} :
    held c M S g ⊢ iprop((held c M S g -∗ WP (F := F) c (k (fun x => g (r.emb x))) Q) -∗ WP (F := F) c (.op (.load M r.toLoadRect hl) k) Q) := by
  unfold held
  iintro ⟨%f, %hf, H⟩ Hk
  iapply (wp_load 𝒱₀ (c : Thread nD τ) none Set.univ (m := M) (S := M.view.setOn S) (Finset.map_subset_map.mpr hS)) $$ H
  iintro H
  have hv : M.view.readAt (Elt F) r.toLoadRect f = fun x => g (r.emb x) := by
    funext x
    exact hf (r.emb x) (hS (by rw [← Rect.map_emb_univ]; exact Finset.mem_map_of_mem _ (Finset.mem_univ x)))
  rw [hv]
  iapply Hk
  iexists f
  isplitr; · ipureintro; exact hf
  iexact H

theorem store_held {α : Type} {Q : α → sProp 𝕄} {S : Finset sh.Idx} {g g' : sh.Idx → Elt F e} {r : Rect sh} {w : r.shape.Idx → Elt F e}
    {hx : (M.access r).Stores Finset.univ} {hm : (Finset.univ : Finset r.shape.Idx) = Finset.univ ∨ ∀ a, r.stride a = 1} (hS : r.set ⊆ S)
    (hw : ∀ x, w x = g' (r.emb x)) (hg : ∀ y ∈ S, y ∉ r.set → g y = g' y)
    {k : PUnit → Prog (TpuEff nD τ sig (Elt F) Λ₀ .tc) α} :
    held c M S g ⊢ iprop((held c M S g' -∗ WP (F := F) c (k ⟨⟩) Q) -∗ WP (F := F) c (.op (.store M r w Finset.univ hx hm) k) Q) := by
  unfold held
  iintro ⟨%f, %hf, H⟩ Hk
  iapply (wp_store 𝒱₀ (c : Thread nD τ) none Set.univ (m := M) (r := r) (Mk := Finset.univ) (S := M.view.setOn S)
    (by
      rw [show (M.access r).setOn Finset.univ = M.view.setOn r.set from M.view.set_slice r]
      exact Finset.map_subset_map.mpr hS)) $$ H
  iintro H
  iapply Hk
  iexists ((M.access r).write (Elt F) f w Finset.univ)
  isplitr
  · ipureintro
    intro y hy
    by_cases hr : y ∈ r.set
    · rw [← Rect.map_emb_univ] at hr
      obtain ⟨j, -, rfl⟩ := Finset.mem_map.mp hr
      exact (View.read_slice_write_emb (v := M.view) r f w (Finset.mem_univ j)).trans (hw j)
    · refine (View.read_slice_write_of_not_mem (v := M.view) r f w Finset.univ ?_).trans ((hf y hy).trans (hg y hy hr))
      rw [Rect.map_emb_univ]; exact hr
  iexact H

end

end Cert.Cube

end
-- ==== Proof.Cells.lean ====
/- The protocol: which device a transfer goes to, what the arrays hold step by step, and what each semaphore's
   rounds hand over. -/
module

public import proofs.«01_k».proof.Proof.Held

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cube -/

/-- The three neighbours of a device, in the order it signals them. -/
def nb (c : Dev nD) : Fin 3 → Dev nD
  | 0 => ⟨k0_dev1 c, k0_dev1_lt c⟩ | 1 => ⟨k0_dev2 c, k0_dev2_lt c⟩ | 2 => ⟨k0_dev3 c, k0_dev3_lt c⟩

/-- The axis transfer `k` of slab `s` goes along. -/
def ax (s : Fin 3) (k : Fin 8) : Fin 3 := 2 - (s + (![0, 1, 2, 1, 0] : Fin 5 → Fin 3) (st k))

theorem sdev_eq : ∀ (c : Dev nD) (s : Fin 3) (k : Fin 8), sdev c s k = nb c (ax s k) := by decide +kernel
theorem nb_nb : ∀ (c : Dev nD) (a : Fin 3), nb (nb c a) a = c := by decide +kernel
theorem sdev_sdev : ∀ (c : Dev nD) (s : Fin 3) (k : Fin 8), sdev (sdev c s k) s k = c := by decide +kernel
theorem sdev_half : ∀ (c : Dev nD) (s : Fin 3) (t : Fin 3) (h : Fin 2), sdev c s (kk t h) = sdev c s (kk t 0) := by decide +kernel

def nbE (a : Fin 3) : Dev nD ≃ Dev nD := ⟨fun c => nb c a, fun c => nb c a, fun c => nb_nb c a, fun c => nb_nb c a⟩
def sdevE (s : Fin 3) (k : Fin 8) : Dev nD ≃ Dev nD := ⟨fun c => sdev c s k, fun c => sdev c s k, fun c => sdev_sdev c s k, fun c => sdev_sdev c s k⟩

/-! ## Rows -/

/-- The rows of slab `s` a device gives away and keeps: at the first step (512 each), at the second (256 each). -/
def o1 (c : Dev nD) (s : Fin 3) : ℕ := soff c s 0 0
def m1 (c : Dev nD) (s : Fin 3) : ℕ := aoff c s 0 0 0
def o2 (c : Dev nD) (s : Fin 3) : ℕ := soff c s 2 0
def m2 (c : Dev nD) (s : Fin 3) : ℕ := aoff c s 1 0 0

/-- The first row transfer `k` reads. -/
def srow (c : Dev nD) (s : Fin 3) : Fin 8 → ℕ
  | 0 => o1 c s | 1 => o1 c s + 256 | 2 => o2 c s | 3 => o2 c s + 128 | 4 => m2 c s | 5 => m2 c s + 128 | 6 => m2 c s | 7 => m1 c s
/-- The first row half `h` of step `t` updates. -/
def arow (c : Dev nD) (s : Fin 3) : Fin 3 → Fin 2 → ℕ
  | 0, 0 => m1 c s | 0, 1 => m1 c s + 256 | 1, 0 => m2 c s | 1, 1 => m2 c s + 128 | 2, 0 => m2 c s | 2, 1 => m2 c s + 128

theorem soff_eq : ∀ (c : Dev nD) (s : Fin 3) (k : Fin 8), soff c s k = ![srow c s k, c0 s] := by decide +kernel
theorem aoff_eq : ∀ (c : Dev nD) (s : Fin 3) (t : Fin 3) (h : Fin 2), aoff c s t h = ![arow c s t h, c0 s] := by decide +kernel
theorem ooff_eq : ∀ (c : Dev nD) (s : Fin 3), ooff c s = ![m2 c s, c0 s] := by decide +kernel
/-- A half is added where the neighbour read it. -/
theorem aoff_soff : ∀ (c : Dev nD) (s : Fin 3) (t : Fin 3) (h : Fin 2), aoff c s t h = soff (sdev c s (kk t h)) s (kk t h) := by decide +kernel
theorem soff_6 : ∀ (c : Dev nD) (s : Fin 3), soff (sdev c s 6) s 6 = ![o2 c s, c0 s] := by decide +kernel
theorem soff_7 : ∀ (c : Dev nD) (s : Fin 3), soff (sdev c s 7) s 7 = ![o1 c s, c0 s] := by decide +kernel
theorem rows1 : ∀ (c : Dev nD) (s : Fin 3), (o1 c s = 0 ∧ m1 c s = 512) ∨ (o1 c s = 512 ∧ m1 c s = 0) := by decide +kernel
theorem rows2 : ∀ (c : Dev nD) (s : Fin 3), (o2 c s = m1 c s ∧ m2 c s = m1 c s + 256) ∨ (o2 c s = m1 c s + 256 ∧ m2 c s = m1 c s) := by decide +kernel

/-! ## Who finishes which rows -/

/-- The device whose finished rows reach `c` for the quarter `q` of slab `s`. -/
def own (c : Dev nD) (s : Fin 3) (q : ℕ) : Dev nD :=
  if m2 c s = 256 * q then c
  else if m2 (sdev c s 6) s = 256 * q then sdev c s 6
  else if m2 (sdev c s 7) s = 256 * q then sdev c s 7
  else sdev (sdev c s 7) s 6

theorem own_self : ∀ (c : Dev nD) (s : Fin 3), own c s (m2 c s / 256) = c := by decide +kernel
theorem own_6 : ∀ (c : Dev nD) (s : Fin 3), own (sdev c s 6) s (o2 c s / 256) = own c s (o2 c s / 256) := by decide +kernel
theorem own_7 : ∀ (c : Dev nD) (s : Fin 3) (q : Fin 4), own (sdev c s 7) s q = own c s q := by decide +kernel
theorem m2_dvd : ∀ (c : Dev nD) (s : Fin 3), 256 * (m2 c s / 256) = m2 c s ∧ 256 * (o2 c s / 256) = o2 c s := by decide +kernel

/-! ## Contents -/

/-- A whole array of the exchange. -/
abbrev Arr (F : FTy → Type) : Type := S1024x1024.Idx → Elt F .bf16

section
variable (A0 : Dev nD → Arr F)

/-- The sums of slab `s` after `n` steps, device by device. -/
def part (s : Fin 3) : ℕ → Dev nD → Arr F
  | 0 => A0
  | n + 1 => fun c => addf (F := F) (s := S1024x1024) (φ := .bf16) (part s n c) (part s n (sdev c s (kk (Fin.ofNat 3 n) 0)))

/-- The finished rows of slab `s`, wherever they were finished. -/
def gath (c : Dev nD) (s : Fin 3) : Arr F := fun i => part A0 s 3 (own c s ((i 0).val / 256)) i

/-- What transfer `k` reads from. -/
def G (s : Fin 3) (k : Fin 8) (c : Dev nD) : Arr F := if k.val < 6 then part A0 s (st k).val c else gath A0 c s

/-- What transfer `k` of device `c` carries. -/
def X (s : Fin 3) (k : Fin 8) (c : Dev nD) : (T s k).Idx → Elt F .bf16 := fun x => G A0 s k c ((srect c s k).emb x)

end

/-! ## The cells -/

abbrev barS : Sem sig := sig.barrier 0 rfl
abbrev barCell (c : Dev nD) : GSem nD τ sig := ((c : Thread nD τ), .reg barS)
abbrev sndCell (c : Dev nD) (s : Fin 3) (h : Fin 2) : GSem nD τ sig := ((c : Thread nD τ), .dma (sndS s h))
abbrev rcvCell (c : Dev nD) (s : Fin 3) (k : Fin 8) : GSem nD τ sig := ((c : Thread nD τ), .dma (rcvS s k))

/-- What a semaphore is for. -/
inductive Role
  | bar | snd (s : Fin 3) (h : Fin 2) | rcv (s : Fin 3) (k : Fin 8) | other
  deriving DecidableEq

def role : SemLoc sig → Role
  | .reg q => if q = barS then .bar else .other
  | .dma q => if h : 11 ≤ q.val ∧ q.val < 35 then .rcv ⟨(q.val - 11) / 8, by omega⟩ ⟨(q.val - 11) % 8, by omega⟩
      else if h : 5 ≤ q.val ∧ q.val < 11 then .snd ⟨(q.val - 5) / 2, by omega⟩ ⟨(q.val - 5) % 2, by omega⟩ else .other

theorem role_bar : role (.reg barS) = .bar := by decide
theorem role_snd : ∀ (s : Fin 3) (h : Fin 2), role (.dma (sndS s h)) = .snd s h := by decide
theorem role_rcv : ∀ (s : Fin 3) (k : Fin 8), role (.dma (rcvS s k)) = .rcv s k := by decide

/-- The transfer of round `r` on the send semaphore of half `h`. -/
def kof (h : Fin 2) (r : ℕ) : Fin 8 :=
  if h = 0 then (match r with | 0 => 0 | 1 => 2 | 2 => 4 | 3 => 6 | _ => 7) else (match r with | 0 => 1 | 1 => 3 | _ => 5)
/-- How many rounds it has. -/
abbrev rounds (h : Fin 2) : ℕ := if h = 0 then 5 else 3

theorem kof_eq : ∀ k : Fin 8, kof (hf k) (st k).val = k := by decide
theorem st_lt : ∀ k : Fin 8, (st k).val < rounds (hf k) := by decide

/-- What a transfer credits. -/
def N (s : Fin 3) (k : Fin 8) : ℕ := (dst (0 : Fin 8) s k).view.dmaCredit

theorem N_dst (c : Dev nD) (s : Fin 3) (k : Fin 8) : (dst c s k).view.dmaCredit = N s k := by
  unfold N; fin_cases k <;> rfl
theorem N_src (c : Dev nD) (s : Fin 3) (k : Fin 8) : (src c s k).view.dmaCredit = N s k := by
  unfold N; fin_cases s <;> fin_cases k <;> rfl
theorem N_pos (s : Fin 3) (k : Fin 8) : 0 < N s k := View.dmaCredit_pos _ (pos_T s k)

/-- The transfers along an axis. -/
def along (a : Fin 3) : Finset (Fin 3 × Fin 8) := Finset.univ.filter fun sk => ax sk.1 sk.2 = a

/-- Where device `c`'s transfer lands, on the device it goes to: at any contents. -/
def land (c : Dev nD) (s : Fin 3) (k : Fin 8) : sProp 𝕄 :=
  iprop(∃ Y : (T s k).Idx → Elt F .bf16, owns ((sdev c s k : Dev nD) : Thread nD τ) (dst c s k) fullShare Y)

instance land_storable (c : Dev nD) (s : Fin 3) (k : Fin 8) : BI.Storable (upEmb : UEmb _ 𝕄) (land (F := F) c s k) := by
  unfold land; infer_instance

section
variable (A0 : Dev nD → Arr F)

/-- What a barrier signal hands over: all that its sender lends the receiver. -/
def barPay (c : Dev nD) (a : Fin 3) : sProp 𝕄 := bigSep (along a) fun sk => land (F := F) c sk.1 sk.2
/-- What a finished departure gives back, and what an arrival brings. -/
def sndPay (c : Dev nD) (s : Fin 3) (k : Fin 8) : sProp 𝕄 := owns (c : Thread nD τ) (src c s k) fullShare (X A0 s k c)
def rcvPay (c : Dev nD) (s : Fin 3) (k : Fin 8) : sProp 𝕄 :=
  owns (c : Thread nD τ) (dst (sdev c s k) s k) fullShare (X A0 s k (sdev c s k))

/-- The rounds. -/
def Rd : Rounds.Schedule (GSem nD τ sig) (Fin 3) 𝕄 where
  duties g r := if g.1.2 = .tc then (match role g.2 with
    | .bar => if r = 0 then Finset.univ else ∅
    | .snd _ h => if r < rounds h then {0} else ∅
    | .rcv _ _ => if r = 0 then {0} else ∅
    | .other => ∅) else ∅
  unitless _ := False
  amount g r _ := match role g.2 with
    | .bar => 1
    | .snd s h => N s (kof h r)
    | .rcv s k => N s k
    | .other => 1
  payload g r d := match role g.2 with
    | .bar => barPay g.1.1 d
    | .snd s h => sndPay A0 g.1.1 s (kof h r)
    | .rcv s k => rcvPay A0 g.1.1 s k
    | .other => iprop(emp)
  amount_pos g r d _ := by
    cases role g.2 <;> first | exact Nat.one_pos | exact N_pos _ _

instance Rd_payload_storable (g : GSem nD τ sig) (r : ℕ) (d : Fin 3) : BI.Storable (upEmb : UEmb _ 𝕄) ((Rd A0).payload g r d) := by
  show BI.Storable upEmb (match role g.2 with
    | .bar => barPay g.1.1 d
    | .snd s h => sndPay A0 g.1.1 s (kof h r)
    | .rcv s k => rcvPay A0 g.1.1 s k
    | .other => iprop(emp))
  unfold barPay sndPay rcvPay
  cases role g.2 <;> infer_instance

section Sched
variable (c : Dev nD) (s : Fin 3)

theorem duties_bar : (Rd A0).duties (barCell c) 0 = Finset.univ := by
  dsimp only [Rd]; rw [if_pos rfl, role_bar]; rfl
theorem duties_snd (h : Fin 2) (r : ℕ) (hr : r < rounds h) : (Rd A0).duties (sndCell c s h) r = {0} := by
  dsimp only [Rd]; rw [if_pos rfl, role_snd]; exact if_pos hr
theorem duties_rcv (k : Fin 8) : (Rd A0).duties (rcvCell c s k) 0 = {0} := by
  dsimp only [Rd]; rw [if_pos rfl, role_rcv]; rfl

theorem later_bar : ∀ r, 1 ≤ r → (Rd A0).duties (barCell c) r = ∅ := fun r hr => by
  dsimp only [Rd]; rw [if_pos rfl, role_bar]; exact if_neg (by omega)
theorem later_snd (h : Fin 2) : ∀ r, rounds h ≤ r → (Rd A0).duties (sndCell c s h) r = ∅ := fun r hr => by
  dsimp only [Rd]; rw [if_pos rfl, role_snd]; exact if_neg (by omega)
theorem later_rcv (k : Fin 8) : ∀ r, 1 ≤ r → (Rd A0).duties (rcvCell c s k) r = ∅ := fun r hr => by
  dsimp only [Rd]; rw [if_pos rfl, role_rcv]; exact if_neg (by omega)

theorem amount_bar (d : Fin 3) : (Rd A0).amount (barCell c) 0 d = 1 := by dsimp only [Rd]; rw [role_bar]
theorem amount_snd (k : Fin 8) (d : Fin 3) : (Rd A0).amount (sndCell c s (hf k)) (st k).val d = N s k := by
  dsimp only [Rd]; rw [role_snd]; dsimp only; rw [kof_eq]
theorem amount_rcv (k : Fin 8) (d : Fin 3) : (Rd A0).amount (rcvCell c s k) 0 d = N s k := by
  dsimp only [Rd]; rw [role_rcv]

theorem expect_bar : (Rd A0).expect (barCell c) 0 = 3 := by
  unfold Schedule.expect Schedule.amountOf
  rw [duties_bar, Finset.sum_congr rfl fun d _ => amount_bar A0 c d]; rfl
theorem expect_snd (k : Fin 8) : (Rd A0).expect (sndCell c s (hf k)) (st k).val = N s k := by
  unfold Schedule.expect Schedule.amountOf; rw [duties_snd A0 c s _ _ (st_lt k), Finset.sum_singleton, amount_snd]
theorem expect_rcv (k : Fin 8) : (Rd A0).expect (rcvCell c s k) 0 = N s k := by
  unfold Schedule.expect Schedule.amountOf; rw [duties_rcv, Finset.sum_singleton, amount_rcv]

theorem payload_bar (d : Fin 3) : (Rd A0).payload (barCell c) 0 d = barPay c d := by dsimp only [Rd]; rw [role_bar]
theorem payload_snd (k : Fin 8) (d : Fin 3) : (Rd A0).payload (sndCell c s (hf k)) (st k).val d = sndPay A0 c s k := by
  dsimp only [Rd]; rw [role_snd]; dsimp only; rw [kof_eq]
theorem payload_rcv (k : Fin 8) (d : Fin 3) : (Rd A0).payload (rcvCell c s k) 0 d = rcvPay A0 c s k := by
  dsimp only [Rd]; rw [role_rcv]

theorem rest_bar : bigSep ((Rd A0).duties (barCell c) 0 \ ∅) (fun d => (Rd A0).payload (barCell c) 0 d)
    = bigSep Finset.univ fun a : Fin 3 => barPay (F := F) c a := by
  rw [Finset.sdiff_empty, duties_bar]; exact bigSep_congr fun a _ => payload_bar A0 c a
theorem rest_snd (k : Fin 8) : bigSep ((Rd A0).duties (sndCell c s (hf k)) (st k).val \ ∅) (fun d => (Rd A0).payload (sndCell c s (hf k)) (st k).val d)
    = sndPay A0 c s k := by
  rw [Finset.sdiff_empty, duties_snd A0 c s _ _ (st_lt k), bigSep_singleton, payload_snd]
theorem rest_rcv (k : Fin 8) : bigSep ((Rd A0).duties (rcvCell c s k) 0 \ ∅) (fun d => (Rd A0).payload (rcvCell c s k) 0 d) = rcvPay A0 c s k := by
  rw [Finset.sdiff_empty, duties_rcv, bigSep_singleton, payload_rcv]

end Sched
end

/-! ## What a device owes, and in which order cells are waited for -/

/-- When a transfer is started, among the device's 24. -/
def ord (sk : Fin 3 × Fin 8) : ℕ :=
  if sk.2.val < 6 then 6 * (sk.2.val / 2) + 2 * sk.1.val + sk.2.val % 2 else if sk.2.val = 6 then 18 + sk.1.val else 21 + sk.1.val

/-- The transfers not yet started when `n` are. -/
def pend (n : ℕ) : Finset (Fin 3 × Fin 8) := Finset.univ.filter fun sk => n ≤ ord sk

theorem ord_inj : ∀ a b : Fin 3 × Fin 8, ord a = ord b → a = b := by decide +kernel

/-- What a device still owes its neighbours' arrival cells. -/
def due (c : Dev nD) (n : ℕ) : CellTallies nD τ sig Unit :=
  ∑ sk ∈ pend n, tallyAt (rcvCell (sdev c sk.1 sk.2) sk.1 sk.2) () (N sk.1 sk.2)

theorem due_step (c : Dev nD) (s : Fin 3) (k : Fin 8) :
    due c (ord (s, k)) = due c (ord (s, k) + 1) + tallyAt (rcvCell (sdev c s k) s k) () (N s k) := by
  unfold due
  have h : pend (ord (s, k)) = insert (s, k) (pend (ord (s, k) + 1)) := by
    ext sk
    simp only [pend, Finset.mem_filter, Finset.mem_univ, true_and, Finset.mem_insert]
    constructor
    · intro h
      by_cases he : ord sk = ord (s, k)
      · exact Or.inl (ord_inj _ _ he)
      · exact Or.inr (by omega)
    · rintro (rfl | h)
      · exact Nat.le_refl _
      · omega
  rw [h, Finset.sum_insert (by simp [pend]), add_comm]

/-- At launch: the arrivals, and a unit at each neighbour's barrier. -/
def O₀ (c : Dev nD) : CellTallies nD τ sig Unit :=
  due c 0 + tallyAt (barCell (nb c 2)) () 1 + tallyAt (barCell (nb c 1)) () 1 + tallyAt (barCell (nb c 0)) () 1

def L (g : GSem nD τ sig) : Finset Unit := if g.1.2 = .tc then {()} else ∅
def lv (g : GSem nD τ sig) (_ : Unit) : ℕ := match role g.2 with
  | .bar => 1
  | .rcv _ k => 2 + (st k).val
  | _ => 0

theorem L_of_ne (g : GSem nD τ sig) (h : g.1.2 ≠ .tc) : L g = ∅ := if_neg h
theorem L_tc (c : Dev nD) (sm : SemLoc sig) : L ((c : Thread nD τ), sm) = {()} := if_pos rfl

theorem due_pos {c : Dev nD} {n : ℕ} {g : GSem nD τ sig} {u : Unit} (h : 0 < due c n g u) :
    ∃ sk ∈ pend n, g = rcvCell (sdev c sk.1 sk.2) sk.1 sk.2 := by
  by_contra hn
  push Not at hn
  refine Nat.lt_irrefl 0 (lt_of_lt_of_eq h ?_)
  unfold due
  rw [Finset.sum_apply, Finsupp.finset_sum_apply]
  exact Finset.sum_eq_zero fun sk hsk => by rw [tallyAt_apply, if_neg (fun h' => hn sk hsk h'.1)]

theorem O₀_pos {c : Dev nD} {g : GSem nD τ sig} {u : Unit} (h : 0 < O₀ c g u) :
    (∃ sk : Fin 3 × Fin 8, g = rcvCell (sdev c sk.1 sk.2) sk.1 sk.2) ∨ ∃ a, g = barCell (nb c a) := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  have hd : due c 0 g u = 0 := Nat.eq_zero_of_not_pos fun h' => by
    obtain ⟨sk, -, hg⟩ := due_pos h'; exact hn.1 ⟨sk, hg⟩
  rw [hd, if_neg (fun h' => hn.2 ⟨2, h'.1⟩), if_neg (fun h' => hn.2 ⟨1, h'.1⟩), if_neg (fun h' => hn.2 ⟨0, h'.1⟩)] at h
  exact Nat.lt_irrefl 0 h

/-- Cells of no role are waited for owing anything. -/
theorem mayWait_low (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨sk, rfl⟩ | ⟨a, rfl⟩ <;> exact Finset.mem_singleton_self _)
      (fun p hp => by rw [Finset.mem_singleton.mp hp]; exact hq.le)
      (fun g u hg => by
        rcases O₀_pos hg with ⟨sk, rfl⟩ | ⟨a, rfl⟩
        · dsimp only [lv]; rw [role_rcv]; dsimp only; omega
        · dsimp only [lv]; rw [role_bar]; dsimp only; omega)
  · rw [MayWait_zero]; iintro -; iempintro

/-- A cell below every arrival still due may be waited for. -/
theorem mayWait_due (c : Dev nD) (sm : SemLoc sig) (n : ℕ) (h : ∀ sk ∈ pend n, lv ((c : Thread nD τ), sm) () < 2 + (st sk.2).val) :
    (levAts L lv : sProp 𝕄) ⊢ MayWait (c : Thread nD τ) sm () (due c n) :=
  MayOwe.of_cut (L := L) (lev := lv) (lv ((c : Thread nD τ), sm) ()) (fun p hp => by rw [Finset.mem_singleton.mp hp, L_tc]; exact Finset.mem_singleton_self _)
    (fun g u hg => by obtain ⟨sk, -, rfl⟩ := due_pos hg; exact Finset.mem_singleton_self _)
    (fun p hp => by rw [Finset.mem_singleton.mp hp])
    (fun g u hg => by
      obtain ⟨sk, hsk, rfl⟩ := due_pos hg
      have := h sk hsk
      refine lt_of_lt_of_eq this ?_
      dsimp only [lv]; rw [role_rcv])

end Cert.Cube

end
-- ==== Proof.Transfer.lean ====
/- One transfer started, one transfer awaited: each stated once for every slab and transfer. -/
module

public import proofs.«01_k».proof.Proof.Cells

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells by name -/

/-- A device's cells: its barrier, its six send semaphores, its 24 arrival semaphores. -/
abbrev CI : Type := Unit ⊕ ((Fin 3 × Fin 2) ⊕ (Fin 3 × Fin 8))
def csem : CI → SemLoc sig
  | .inl _ => .reg barS
  | .inr (.inl sh) => .dma (sndS sh.1 sh.2)
  | .inr (.inr sk) => .dma (rcvS sk.1 sk.2)
abbrev kcell (ck : Dev nD × CI) : GSem nD τ sig := ((ck.1 : Thread nD τ), csem ck.2)

section
variable (A0 : Dev nD → Arr F) (K : Dev nD × CI → ℕ)

/-- What every device knows throughout: the cells' rounds, that each has begun, and the order of the cells. -/
def ctx : sProp 𝕄 :=
  iprop((bigSep Finset.univ fun ck : Dev nD × CI => cellInv ER (Rd A0) (K ck) (kcell ck))
    ∗ (bigSep Finset.univ fun ck : Dev nD × CI => reached ER (kcell ck) 0) ∗ levAts L lv)

instance ctx_persistent : BI.Persistent (ctx A0 K) := by unfold ctx; infer_instance

theorem inv_at (ck : Dev nD × CI) : (bigSep Finset.univ fun ck : Dev nD × CI => (cellInv ER (Rd A0) (K ck) (kcell ck) : sProp 𝕄)) ⊢ cellInv ER (Rd A0) (K ck) (kcell ck) :=
  bigSep_elim (Finset.mem_univ ck)
omit [FloatOps F] in
theorem reached_at (ck : Dev nD × CI) : (bigSep Finset.univ fun ck : Dev nD × CI => (reached ER (kcell ck) 0 : sProp 𝕄)) ⊢ reached ER (kcell ck) 0 :=
  bigSep_elim (Finset.mem_univ ck)

theorem ctx_inv (ck : Dev nD × CI) : ctx A0 K ⊢ cellInv ER (Rd A0) (K ck) (kcell ck) := by
  unfold ctx
  iintro ⟨H, -, -⟩
  iapply (inv_at A0 K ck)
  iexact H
theorem ctx_reached (ck : Dev nD × CI) : ctx A0 K ⊢ reached ER (kcell ck) 0 := by
  unfold ctx
  iintro ⟨-, H, -⟩
  iapply (reached_at (F := F) ck)
  iexact H
theorem ctx_lev : ctx A0 K ⊢ levAts L lv := by
  unfold ctx
  iintro ⟨-, -, H⟩
  iexact H

end

/-! ## What is held around a transfer -/

/-- The right to start a transfer, and with the place it lands in. -/
def tok (c : Dev nD) (s : Fin 3) (k : Fin 8) : sProp 𝕄 :=
  iprop(dutyTok ER (sndCell c s (hf k)) (st k).val 0 ∗ dutyTok ER (rcvCell (sdev c s k) s k) 0 0)
def can (c : Dev nD) (s : Fin 3) (k : Fin 8) : sProp 𝕄 := iprop(tok (F := F) c s k ∗ land c s k)
/-- How many departures of a half were awaited. -/
def left (c : Dev nD) (s : Fin 3) (h : Fin 2) (r : ℕ) : sProp 𝕄 := iprop(atPos ER (sndCell c s h) r ∅ 0 ∗ reached ER (sndCell c s h) r)
/-- A transfer on its way. -/
def fly (c : Dev nD) (s : Fin 3) (k : Fin 8) : sProp 𝕄 := cred (tallyAt (sndCell c s (hf k)) () (N s k))
/-- An arrival to come; one that came. -/
def todo (c : Dev nD) (s : Fin 3) (k : Fin 8) : sProp 𝕄 :=
  iprop(cred (tallyAt (rcvCell c s k) () (N s k)) ∗ atPos ER (rcvCell c s k) 0 ∅ 0)
def came (c : Dev nD) (s : Fin 3) (k : Fin 8) : sProp 𝕄 := atPos ER (rcvCell c s k) 1 ∅ 0
/-- What is owed after `n` transfers. -/
def debt (c : Dev nD) (n : ℕ) : sProp 𝕄 := iprop(∃ W, owes (c : Thread nD τ) (due c n) W)

section
variable (A0 : Dev nD → Arr F) (K : Dev nD × CI → ℕ) (c : Dev nD) (s : Fin 3) (k : Fin 8)

theorem rcv_of_send (fd : Buf (Elt F) ((dst c s k).view.loc ((sdev c s k : Dev nD) : Thread nD τ))) :
    ((dst c s k).view.loc ((sdev c s k : Dev nD) : Thread nD τ) ↦[(dst c s k).view.set]{fullShare}
        ((dst c s k).view.write (Elt F) fd (X A0 s k c) Finset.univ))
      ⊢ rcvPay A0 (sdev c s k) s k := by
  unfold rcvPay
  rw [sdev_sdev]
  unfold owns
  iintro H
  iexists ((dst c s k).view.write (Elt F) fd (X A0 s k c) Finset.univ)
  isplitr
  · ipureintro; exact View.read_write_univ _ _
  iexact H

/-- Starting a transfer. -/
theorem send_ok {Kt : PUnit → sProp 𝕄} :
    iprop(ctx A0 K ∗ can (F := F) c s k ∗ left (F := F) c s (hf k) (st k).val ∗ sndPay A0 c s k ∗ debt (F := F) c (ord (s, k)))
      ⊢ iprop(((fly (F := F) c s k ∗ left (F := F) c s (hf k) (st k).val ∗ debt (F := F) c (ord (s, k) + 1)) -∗ Kt ⟨⟩)
          -∗ WP (F := F) c (send c s k) Kt) := by
  unfold can tok left debt land sndPay fly send
  iintro ⟨#Hctx, ⟨⟨HtS, HtR⟩, %Y, HY⟩, ⟨Hat, #Hr⟩, Hsrc, %W, HO⟩ Hk
  ihave #HIs := (ctx_inv A0 K (c, .inr (.inl (s, hf k)))) $$ Hctx
  ihave #HIr := (ctx_inv A0 K (sdev c s k, .inr (.inr (s, k)))) $$ Hctx
  ihave #Hrr := (ctx_reached A0 K (sdev c s k, .inr (.inr (s, k)))) $$ Hctx
  unfold owns
  icases HY with ⟨%fd, -, Hd⟩
  icases Hsrc with ⟨%fs, %hfs, Hs⟩
  simp only [Prog.lift]
  iapply (Rounds.wp_send_pointsTo 𝒱₀ ER (Rd A0) (c : Thread nD τ) none (κ₁ := K (c, .inr (.inl (s, hf k)))) (κ₂ := K (sdev c s k, .inr (.inr (s, k))))
    (r₁ := (st k).val) (r₂ := 0) (d₁ := 0) (d₂ := 0) (fd := fd) (fs := fs) (q := fullShare)
    (by rw [duties_snd A0 c s _ _ (st_lt k)]; exact Finset.mem_singleton_self _)
    (by rw [duties_rcv]; exact Finset.mem_singleton_self _)
    () () (N s k) (by exact N_dst c s k) (amount_snd A0 c s k 0) (amount_rcv A0 (sdev c s k) s k 0) (due c (ord (s, k) + 1)) (due_step c s k) (W := W)
    (by
      rw [payload_snd]; unfold sndPay owns
      iintro H
      iexists fs
      isplitr; · ipureintro; exact hfs
      iexact H)
    (by rw [payload_rcv, hfs]; exact rcv_of_send A0 c s k fd)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hr
    isplitl [HtR]; · iexact HtR
    iexact Hrr
  iintro ⟨HcS, HO⟩
  rw [wp_ret]; imodintro
  iapply Hk
  isplitl [HcS]; · iexact HcS
  isplitl [Hat]
  · isplitl [Hat]; · iexact Hat
    iexact Hr
  iexists W; iexact HO

/-- Awaiting a transfer, with `n` started. -/
theorem await_ok (n : ℕ) (hn : ∀ sk ∈ pend n, (st k).val < (st sk.2).val) {Kt : PUnit → sProp 𝕄} :
    iprop(ctx A0 K ∗ fly (F := F) c s k ∗ todo (F := F) c s k ∗ left (F := F) c s (hf k) (st k).val ∗ debt (F := F) c n)
      ⊢ iprop(((left (F := F) c s (hf k) ((st k).val + 1) ∗ came (F := F) c s k ∗ sndPay A0 c s k ∗ rcvPay A0 c s k ∗ debt (F := F) c n) -∗ Kt ⟨⟩)
          -∗ WP (F := F) c (await c s k) Kt) := by
  unfold fly todo left debt came await
  iintro ⟨#Hctx, HcS, ⟨HcR, HaR⟩, ⟨HaS, -⟩, %W, HO⟩ Hk
  ihave #HIs := (ctx_inv A0 K (c, .inr (.inl (s, hf k)))) $$ Hctx
  ihave #HIr := (ctx_inv A0 K (c, .inr (.inr (s, k)))) $$ Hctx
  ihave #Hlev := (ctx_lev A0 K) $$ Hctx
  simp only [Prog.lift, Prog.bind_op, Prog.bind_ret, Prog.pure_eq_ret]
  iapply (Rounds.wp_wait_rest_token 𝒱₀ ER (Rd A0) (c : Thread nD τ) none (κ := K (c, .inr (.inl (s, hf k))))
      (wpE_waitDma2_eq 𝒱₀ (c : Thread nD τ) none Set.univ) (Set.mem_univ _) () (O := due c n) (W := W) (R := (st k).val) (m := 0) (T := ∅)
      (by rw [Nat.zero_add, N_src]; exact (expect_snd A0 c s k).symm)) $$ [HcS HO HaS]
  · isplitr; · iexact HIs
    isplitl [HcS]; · rw [N_src]; iexact HcS
    isplitl [HO]; · iexact HO
    isplitr
    · iapply (mayWait_due c _ n (fun sk _ => by dsimp only [lv]; rw [role_snd]; dsimp only; omega)); iexact Hlev
    iexact HaS
  iintro ⟨HO, HaS, #HrS, Hpay⟩
  ihave Hs := (Entails.of_eq (rest_snd A0 c s k)) $$ Hpay
  iapply (Rounds.wp_wait_rest_token 𝒱₀ ER (Rd A0) (c : Thread nD τ) none (κ := K (c, .inr (.inr (s, k))))
      (wpE_waitDma2_eq 𝒱₀ (c : Thread nD τ) none Set.univ) (Set.mem_univ _) () (O := due c n) (W := insert (.dma (sndS s (hf k)), ()) W) (R := 0) (m := 0) (T := ∅)
      (by rw [Nat.zero_add, N_dst]; exact (expect_rcv A0 c s k).symm)) $$ [HcR HO HaR]
  · isplitr; · iexact HIr
    isplitl [HcR]; · rw [N_dst]; iexact HcR
    isplitl [HO]; · iexact HO
    isplitr
    · iapply (mayWait_due c _ n (fun sk hsk => by have := hn sk hsk; dsimp only [lv]; rw [role_rcv]; dsimp only; omega)); iexact Hlev
    iexact HaR
  iintro ⟨HO, HaR, -, Hpay⟩
  ihave Hd := (Entails.of_eq (rest_rcv A0 c s k)) $$ Hpay
  rw [wp_ret]; imodintro
  iapply Hk
  isplitl [HaS]
  · isplitl [HaS]; · iexact HaS
    iexact HrS
  isplitl [HaR]; · iexact HaR
  isplitl [Hs]; · iexact Hs
  isplitl [Hd]; · iexact Hd
  iexists _; iexact HO

end

end Cert.Cube

end
-- ==== Proof.Region.lean ====
/- The exchange's pieces of the big arrays: a run of rows of one slab. How they split and join, which piece a
   transfer, an addition and a copy touches, and what an addition and a copy do. -/
module

public import proofs.«01_k».proof.Proof.Transfer
public import Idealize.ShloMosaic.Lib.Pipeline.Value

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Rows `a` to `a + n` of slab `s`. -/
def reg (a n : ℕ) (s : Fin 3) : Finset S1024x1024.Idx :=
  Finset.univ.filter fun i => (a ≤ (i 0).val ∧ (i 0).val < a + n) ∧ (c0 s ≤ (i 1).val ∧ (i 1).val < c0 s + cw s)

theorem mem_reg {a n : ℕ} {s : Fin 3} {i : S1024x1024.Idx} :
    i ∈ reg a n s ↔ (a ≤ (i 0).val ∧ (i 0).val < a + n) ∧ (c0 s ≤ (i 1).val ∧ (i 1).val < c0 s + cw s) := by
  unfold reg; rw [Finset.mem_filter]; exact and_iff_right (Finset.mem_univ _)

theorem reg_add (a n n' : ℕ) (s : Fin 3) : reg a (n + n') s = reg a n s ∪ reg (a + n) n' s := by
  ext i; rw [Finset.mem_union, mem_reg, mem_reg, mem_reg]; omega
theorem reg_disj (a n n' : ℕ) (s : Fin 3) : Disjoint (reg a n s) (reg (a + n) n' s) := by
  rw [Finset.disjoint_left]; intro i h; rw [mem_reg] at *; omega

theorem rect_reg {sz off : Fin 2 → ℕ} {inb} {a n : ℕ} {s : Fin 3} (ho : off = ![a, c0 s]) (hs : sz = ![n, cw s]) :
    (Rect.unit (s := S1024x1024) off sz inb).set = reg a n s := by
  subst ho hs
  ext i
  rw [Rect.mem_set_unit, mem_reg]
  exact Fin.forall_fin_two

theorem srect_reg (c : Dev nD) (s : Fin 3) (k : Fin 8) : (srect c s k).set = reg (srow c s k) (hr k) s := rect_reg (soff_eq c s k) rfl
theorem arect_reg (c : Dev nD) (s : Fin 3) (t : Fin 3) (h : Fin 2) : (arect c s t h).set = reg (arow c s t h) (hh t) s :=
  rect_reg (aoff_eq c s t h) (by fin_cases t <;> fin_cases h <;> rfl)
theorem orect_reg (c : Dev nD) (s : Fin 3) : (orect c s).set = reg (m2 c s) 256 s := rect_reg (ooff_eq c s) rfl

section
variable (c : Dev nD) (M : Memref sig .tc .vmem S1024x1024 .bf16) (s : Fin 3) (g : Arr F)

theorem rows_split (a n n' : ℕ) : held c M (reg a (n + n') s) g ⊢ iprop(held c M (reg a n s) g ∗ held c M (reg (a + n) n' s) g) :=
  held_split c M (reg_add a n n' s) (reg_disj a n n' s) g
theorem rows_join (a n n' : ℕ) : iprop(held c M (reg a n s) g ∗ held c M (reg (a + n) n' s) g) ⊢ held c M (reg a (n + n') s) g :=
  held_join c M (reg_add a n n' s) (reg_disj a n n' s) g

/-- The kept half of a slab is what is given away and kept at the second step. -/
theorem keep_split : held c M (reg (m1 c s) 512 s) g ⊢ iprop(held c M (reg (o2 c s) 256 s) g ∗ held c M (reg (m2 c s) 256 s) g) := by
  rcases rows2 c s with ⟨h1, h2⟩ | ⟨h1, h2⟩ <;> rw [h1, h2]
  · exact rows_split c M s g (m1 c s) 256 256
  · exact (rows_split c M s g (m1 c s) 256 256).trans sep_comm.1
theorem keep_join : iprop(held c M (reg (o2 c s) 256 s) g ∗ held c M (reg (m2 c s) 256 s) g) ⊢ held c M (reg (m1 c s) 512 s) g := by
  rcases rows2 c s with ⟨h1, h2⟩ | ⟨h1, h2⟩ <;> rw [h1, h2]
  · exact rows_join c M s g (m1 c s) 256 256
  · exact sep_comm.1.trans (rows_join c M s g (m1 c s) 256 256)
/-- A slab is what is given away and kept at the first step. -/
theorem slab_split : held c M (reg 0 1024 s) g ⊢ iprop(held c M (reg (o1 c s) 512 s) g ∗ held c M (reg (m1 c s) 512 s) g) := by
  rcases rows1 c s with ⟨h1, h2⟩ | ⟨h1, h2⟩ <;> rw [h1, h2]
  · exact rows_split c M s g 0 512 512
  · exact (rows_split c M s g 0 512 512).trans sep_comm.1
theorem slab_join : iprop(held c M (reg (o1 c s) 512 s) g ∗ held c M (reg (m1 c s) 512 s) g) ⊢ held c M (reg 0 1024 s) g := by
  rcases rows1 c s with ⟨h1, h2⟩ | ⟨h1, h2⟩ <;> rw [h1, h2]
  · exact rows_join c M s g 0 512 512
  · exact sep_comm.1.trans (rows_join c M s g 0 512 512)

end

/-! ## The three slabs -/

theorem slabs_union : (Finset.univ : Finset S1024x1024.Idx) = reg 0 1024 0 ∪ (reg 0 1024 1 ∪ reg 0 1024 2) := by
  ext i
  have h0 : (i 0).val < 1024 := (i 0).isLt
  have h1 : (i 1).val < 1024 := (i 1).isLt
  rw [Finset.mem_union, Finset.mem_union, mem_reg, mem_reg, mem_reg]
  simp only [Finset.mem_univ, true_iff]
  simp [c0, cw]
  omega
theorem slabs_disj : Disjoint (reg 0 1024 0) (reg 0 1024 1 ∪ reg 0 1024 2) := by
  rw [Finset.disjoint_left]; intro i h
  rw [Finset.mem_union, mem_reg, mem_reg]; rw [mem_reg] at h
  simp [c0, cw] at *; omega
theorem slabs_disj' : Disjoint (reg 0 1024 1) (reg 0 1024 2) := by
  rw [Finset.disjoint_left]; intro i h
  rw [mem_reg] at *
  simp [c0, cw] at *; omega

section
variable (c : Dev nD) (M : Memref sig .tc .vmem S1024x1024 .bf16) (g : Arr F)

theorem whole_split : held c M Finset.univ g ⊢ iprop(held c M (reg 0 1024 0) g ∗ held c M (reg 0 1024 1) g ∗ held c M (reg 0 1024 2) g) :=
  (held_split c M slabs_union slabs_disj g).trans (sep_mono_right (held_split c M rfl slabs_disj' g))
theorem whole_join : iprop(held c M (reg 0 1024 0) g ∗ held c M (reg 0 1024 1) g ∗ held c M (reg 0 1024 2) g) ⊢ held c M Finset.univ g :=
  (sep_mono_right (held_join c M rfl slabs_disj' g)).trans (held_join c M slabs_union slabs_disj g)

end

/-! ## What a transfer reads and brings -/

theorem src_acc (c : Dev nD) (s : Fin 3) (k : Fin 8) (hk : k.val < 6) : src c s k = accM.slice (srect c s k) (fun _ => rfl) := by
  fin_cases k <;> first | rfl | exact absurd hk (by decide)
theorem src_out (c : Dev nD) (s : Fin 3) (k : Fin 8) (hk : 6 ≤ k.val) : src c s k = outM.slice (srect c s k) (fun _ => rfl) := by
  fin_cases k <;> first | rfl | exact absurd hk (by decide)
theorem dst_out (c : Dev nD) (s : Fin 3) (k : Fin 8) (hk : 6 ≤ k.val) : dst c s k = outM.slice (srect c s k) (fun _ => rfl) := by
  fin_cases k <;> first | rfl | exact absurd hk (by decide)
theorem dst_buf (c : Dev nD) (s : Fin 3) (t : Fin 3) (h : Fin 2) : dst c s (kk t h) = bufSl s t h := by
  fin_cases t <;> fin_cases h <;> rfl
theorem st_kk (t : Fin 3) (h : Fin 2) : (st (kk t h)).val = t.val := by
  fin_cases t <;> fin_cases h <;> rfl
theorem kk_lt (t : Fin 3) (h : Fin 2) : (kk t h).val < 6 := by
  fin_cases t <;> fin_cases h <;> decide

section
variable (A0 : Dev nD → Arr F) (c : Dev nD) (s : Fin 3)

theorem G_part (k : Fin 8) (hk : k.val < 6) : G A0 s k c = part A0 s (st k).val c := if_pos hk
theorem G_gath (k : Fin 8) (hk : 6 ≤ k.val) : G A0 s k c = gath A0 c s := if_neg (by omega)

theorem snd_of_acc (k : Fin 8) (hk : k.val < 6) : held c accM (reg (srow c s k) (hr k) s) (part A0 s (st k).val c) ⊢ sndPay A0 c s k := by
  unfold sndPay X; rw [src_acc c s k hk, G_part A0 c s k hk, ← srect_reg]
  exact owns_of_held c accM (srect c s k) (fun _ => rfl) _
theorem acc_of_snd (k : Fin 8) (hk : k.val < 6) : sndPay A0 c s k ⊢ held c accM (reg (srow c s k) (hr k) s) (part A0 s (st k).val c) := by
  unfold sndPay X; rw [src_acc c s k hk, G_part A0 c s k hk, ← srect_reg]
  exact held_of_owns c accM (srect c s k) (fun _ => rfl) _
theorem snd_of_out (k : Fin 8) (hk : 6 ≤ k.val) : held c outM (reg (srow c s k) (hr k) s) (gath A0 c s) ⊢ sndPay A0 c s k := by
  unfold sndPay X; rw [src_out c s k hk, G_gath A0 c s k hk, ← srect_reg]
  exact owns_of_held c outM (srect c s k) (fun _ => rfl) _
theorem out_of_snd (k : Fin 8) (hk : 6 ≤ k.val) : sndPay A0 c s k ⊢ held c outM (reg (srow c s k) (hr k) s) (gath A0 c s) := by
  unfold sndPay X; rw [src_out c s k hk, G_gath A0 c s k hk, ← srect_reg]
  exact held_of_owns c outM (srect c s k) (fun _ => rfl) _

theorem out_of_rcv (k : Fin 8) (hk : 6 ≤ k.val) {a : ℕ} (ha : soff (sdev c s k) s k = ![a, c0 s])
    (hg : ∀ i ∈ reg a (hr k) s, gath A0 (sdev c s k) s i = gath A0 c s i) :
    rcvPay A0 c s k ⊢ held c outM (reg a (hr k) s) (gath A0 c s) := by
  unfold rcvPay X; rw [dst_out _ s k hk, G_gath A0 _ s k hk]
  refine (held_of_owns c outM (srect (sdev c s k) s k) (fun _ => rfl) (gath A0 (sdev c s k) s)).trans ?_
  rw [rect_reg (n := hr k) ha rfl]
  exact held_congr c outM hg

theorem div_of_mem {a : ℕ} {i : S1024x1024.Idx} (h : i ∈ reg a 256 s) (ha : 256 * (a / 256) = a) : (i 0).val / 256 = a / 256 := by
  rw [mem_reg] at h; omega

theorem out_of_rcv6 : rcvPay A0 c s 6 ⊢ held c outM (reg (o2 c s) 256 s) (gath A0 c s) :=
  out_of_rcv A0 c s 6 (by decide) (soff_6 c s) fun i hi => by
    unfold gath; rw [div_of_mem s hi (m2_dvd c s).2, own_6]
theorem out_of_rcv7 : rcvPay A0 c s 7 ⊢ held c outM (reg (o1 c s) 512 s) (gath A0 c s) :=
  out_of_rcv A0 c s 7 (by decide) (soff_7 c s) fun i hi => by
    have h0 : (i 0).val < 1024 := (i 0).isLt
    unfold gath; rw [own_7 c s ⟨(i 0).val / 256, by omega⟩]

/-! ## An addition, a copy -/

/-- A landing place, given back. -/
def back (k : Fin 8) : sProp 𝕄 := iprop(∃ Y : (T s k).Idx → Elt F .bf16, owns (c : Thread nD τ) (dst (sdev c s k) s k) fullShare Y)

/-- A load of an owned slice. -/
theorem load_owns {sh : Shape} {e : EltTy} (M : Memref sig .tc .vmem sh e) {α : Type} {Q : α → sProp 𝕄} {r : Rect sh} {hr : ∀ a, r.stride a = 1}
    {Y : r.shape.Idx → Elt F e} {hl : M.view.LoadsAt r.toLoadRect} {k : (r.shape.Idx → Elt F e) → Prog (TpuEff nD τ sig (Elt F) Λ₀ .tc) α} :
    owns (c : Thread nD τ) (M.slice r hr) fullShare Y
      ⊢ iprop((owns (c : Thread nD τ) (M.slice r hr) fullShare Y -∗ WP (F := F) c (k Y) Q) -∗ WP (F := F) c (.op (.load M r.toLoadRect hl) k) Q) := by
  unfold owns
  iintro ⟨%f, %hf, H⟩ Hk
  iapply (wp_load 𝒱₀ (c : Thread nD τ) none Set.univ (m := M) (S := (M.slice r hr).view.set) (r := r.toLoadRect)
    (by rw [show (M.slice r hr).view.set = M.view.setOn r.set from M.view.set_slice r])) $$ H
  iintro H
  rw [show M.view.readAt (Elt F) r.toLoadRect f = Y from hf]
  iapply Hk
  iexists f
  isplitr; · ipureintro; exact hf
  iexact H

theorem part_succ (t : Fin 3) (h : Fin 2) (d : Dev nD) (y : S1024x1024.Idx) (v w : Elt F .bf16)
    (hv : v = part A0 s t.val d y) (hw : w = part A0 s t.val (sdev d s (kk t h)) y) : FloatOps.addf (φ := .bf16) v w = part A0 s (t.val + 1) d y := by
  subst hv hw
  rw [sdev_half]
  have : Fin.ofNat 3 t.val = t := by fin_cases t <;> rfl
  show _ = FloatOps.addf (φ := .bf16) (part A0 s t.val d y) (part A0 s t.val (sdev d s (kk (Fin.ofNat 3 t.val) 0)) y)
  rw [this]

theorem add_ok (t : Fin 3) (h : Fin 2) {Kt : PUnit → sProp 𝕄} :
    iprop(held c accM (reg (arow c s t h) (hh t) s) (part A0 s t.val c) ∗ rcvPay A0 c s (kk t h))
      ⊢ iprop(((held c accM (reg (arow c s t h) (hh t) s) (part A0 s (t.val + 1) c) ∗ back (F := F) c s (kk t h)) -∗ Kt ⟨⟩) -∗ WP (F := F) c (add c s t h) Kt) := by
  unfold rcvPay back add
  rw [dst_buf, ← arect_reg]
  simp only [Prog.lift, Prog.bind_op, Prog.bind_ret, Prog.pure_eq_ret]
  iintro ⟨HA, HB⟩ Hk
  iapply (load_held c accM (S := (arect c s t h).set) (subset_refl _)) $$ HA; iintro HA
  unfold bufSl
  iapply (load_owns c (bufM s t)) $$ HB; iintro HB
  iapply (load_held c accM (S := (arect c s t h).set) (subset_refl _)) $$ HA; iintro HA
  iapply (store_held c accM (S := (arect c s t h).set) (g' := part A0 s (t.val + 1) c) (subset_refl _)
    (by
      intro x
      rw [shapeCast_self]
      refine part_succ A0 s t h c _ _ _ rfl ?_
      show X A0 s (kk t h) (sdev c s (kk t h)) x = _
      unfold X
      rw [G_part A0 _ s _ (kk_lt t h), st_kk]
      congr 1
      funext a
      apply Fin.ext
      rw [Rect.emb_apply, Rect.emb_apply]
      show soff (sdev c s (kk t h)) s (kk t h) a + _ = aoff c s t h a + _
      rw [aoff_soff]
      rfl)
    (fun y hy hn => absurd hy hn)) $$ HA
  iintro HA
  unfold WP; rw [wp_ret]; imodintro
  iapply Hk
  isplitl [HA]; · iexact HA
  iexists _; iexact HB

theorem copy_ok {Kt : PUnit → sProp 𝕄} :
    iprop(held c accM (reg (m2 c s) 256 s) (part A0 s 3 c) ∗ (∃ u, held c outM (reg (m2 c s) 256 s) u))
      ⊢ iprop(((held c accM (reg (m2 c s) 256 s) (part A0 s 3 c) ∗ held c outM (reg (m2 c s) 256 s) (gath A0 c s)) -∗ Kt ⟨⟩) -∗ WP (F := F) c (copy c s) Kt) := by
  unfold copy
  rw [← orect_reg]
  simp only [Prog.lift, Prog.bind_op, Prog.bind_ret, Prog.pure_eq_ret]
  iintro ⟨HA, %u, HB⟩ Hk
  iapply (load_held c accM (S := (orect c s).set) (subset_refl _)) $$ HA; iintro HA
  iapply (load_held c outM (S := (orect c s).set) (subset_refl _)) $$ HB; iintro HB
  iapply (store_held c outM (S := (orect c s).set) (g' := gath A0 c s) (subset_refl _)
    (by
      intro x
      unfold gath
      have hx : (orect c s).emb x ∈ reg (m2 c s) 256 s := by
        rw [← orect_reg, ← Rect.map_emb_univ]; exact Finset.mem_map_of_mem _ (Finset.mem_univ x)
      rw [div_of_mem s hx (m2_dvd c s).1, own_self])
    (fun y hy hn => absurd hy hn)) $$ HB
  iintro HB
  unfold WP; rw [wp_ret]; imodintro
  iapply Hk
  isplitl [HA]; · iexact HA
  iexact HB

end

end Cert.Cube

end
-- ==== Proof.Slab.lean ====
/- One slab's exchange: its eleven stages, each step taking a stage to the next. -/
module

public import proofs.«01_k».proof.Proof.Region

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (c : Dev nD) (s : Fin 3)

/-- Both halves of step `t`: startable, under way, to come, come, given back. -/
def cans (t : Fin 3) : sProp 𝕄 := iprop(can (F := F) c s (kk t 0) ∗ can (F := F) c s (kk t 1))
def flys (t : Fin 3) : sProp 𝕄 := iprop(fly (F := F) c s (kk t 0) ∗ fly (F := F) c s (kk t 1))
def todos (t : Fin 3) : sProp 𝕄 := iprop(todo (F := F) c s (kk t 0) ∗ todo (F := F) c s (kk t 1))
def ends (t : Fin 3) : sProp 𝕄 :=
  iprop((came (F := F) c s (kk t 0) ∗ came (F := F) c s (kk t 1)) ∗ back (F := F) c s (kk t 0) ∗ back (F := F) c s (kk t 1))
def lefts (a b : ℕ) : sProp 𝕄 := iprop(left (F := F) c s 0 a ∗ left (F := F) c s 1 b)
def away (A0 : Dev nD → Arr F) (t : Fin 3) : sProp 𝕄 := iprop(sndPay A0 c s (kk t 0) ∗ sndPay A0 c s (kk t 1))

end

section
variable (A0 : Dev nD → Arr F) (K : Dev nD × CI → ℕ) (c : Dev nD) (s : Fin 3) (t : Fin 3)

theorem hf_kk (h : Fin 2) : hf (kk t h) = h := by fin_cases t <;> fin_cases h <;> rfl
theorem ord_kk : ord (s, kk t 1) = ord (s, kk t 0) + 1 := by revert s t; decide

/-- Both halves of a step are started. -/
theorem issue_ok (n n' : ℕ) (hn : ord (s, kk t 0) = n) (hn' : n' = n + 2) {Kt : PUnit → sProp 𝕄} :
    iprop(ctx A0 K ∗ cans (F := F) c s t ∗ lefts (F := F) c s t.val t.val ∗ away c s A0 t ∗ debt (F := F) c n)
      ⊢ iprop(((flys (F := F) c s t ∗ lefts (F := F) c s t.val t.val ∗ debt (F := F) c n') -∗ Kt ⟨⟩) -∗ WP (F := F) c (issue c s t) Kt) := by
  subst hn hn'
  have e0 := send_ok A0 K c s (kk t 0) (Kt := fun _ => WP (F := F) c (send c s (kk t 1)) Kt)
  have e1 := send_ok A0 K c s (kk t 1) (Kt := Kt)
  rw [hf_kk, st_kk] at e0 e1
  rw [ord_kk] at e1
  unfold issue cans lefts away flys
  unfold WP at *
  rw [wp_bind]
  iintro ⟨#Hctx, ⟨Hc0, Hc1⟩, ⟨Hl0, Hl1⟩, ⟨Hs0, Hs1⟩, HO⟩ Hk
  iapply e0 $$ [Hc0 Hl0 Hs0 HO]
  · isplitr; · iexact Hctx
    isplitl [Hc0]; · iexact Hc0
    isplitl [Hl0]; · iexact Hl0
    isplitl [Hs0] <;> iassumption
  iintro ⟨Hf0, Hl0, HO⟩
  iapply e1 $$ [Hc1 Hl1 Hs1 HO]
  · isplitr; · iexact Hctx
    isplitl [Hc1]; · iexact Hc1
    isplitl [Hl1]; · iexact Hl1
    isplitl [Hs1] <;> iassumption
  iintro ⟨Hf1, Hl1, HO⟩
  iapply Hk
  isplitl [Hf0 Hf1]
  · isplitl [Hf0] <;> iassumption
  isplitl [Hl0 Hl1]
  · isplitl [Hl0] <;> iassumption
  iexact HO

/-- Both halves of a step are awaited and added. What each addition updates is made from what is held (`R`) and what the
    departure gave back; the rest (`R'`) stays. -/
theorem complete_ok (n : ℕ) (hn : ∀ sk ∈ pend n, t.val < (st sk.2).val) {R R' : Fin 2 → sProp 𝕄}
    (hR : ∀ h, iprop(R h ∗ sndPay A0 c s (kk t h)) ⊢ iprop(held c accM (reg (arow c s t h) (hh t) s) (part A0 s t.val c) ∗ R' h)) {Kt : PUnit → sProp 𝕄} :
    iprop(ctx A0 K ∗ flys (F := F) c s t ∗ todos (F := F) c s t ∗ lefts (F := F) c s t.val t.val ∗ (R 0 ∗ R 1) ∗ debt (F := F) c n)
      ⊢ iprop(((lefts (F := F) c s (t.val + 1) (t.val + 1)
            ∗ (held c accM (reg (arow c s t 0) (hh t) s) (part A0 s (t.val + 1) c) ∗ held c accM (reg (arow c s t 1) (hh t) s) (part A0 s (t.val + 1) c))
            ∗ (R' 0 ∗ R' 1) ∗ ends (F := F) c s t ∗ debt (F := F) c n) -∗ Kt ⟨⟩)
          -∗ WP (F := F) c (complete c s t) Kt) := by
  have e0 := await_ok A0 K c s (kk t 0) n (by rw [st_kk]; exact hn) (Kt := fun _ => WP (F := F) c (do add c s t 0; await c s (kk t 1); add c s t 1) Kt)
  have e1 := await_ok A0 K c s (kk t 1) n (by rw [st_kk]; exact hn) (Kt := fun _ => WP (F := F) c (add c s t 1) Kt)
  have a0 := add_ok A0 c s t 0 (Kt := fun _ => WP (F := F) c (do await c s (kk t 1); add c s t 1) Kt)
  have a1 := add_ok A0 c s t 1 (Kt := Kt)
  rw [hf_kk, st_kk] at e0 e1
  unfold complete lefts flys todos ends
  unfold WP at *
  simp only [wp_bind] at *
  iintro ⟨#Hctx, ⟨Hf0, Hf1⟩, ⟨Ht0, Ht1⟩, ⟨Hl0, Hl1⟩, ⟨HR0, HR1⟩, HO⟩ Hk
  iapply e0 $$ [Hf0 Ht0 Hl0 HO]
  · isplitr; · iexact Hctx
    isplitl [Hf0]; · iexact Hf0
    isplitl [Ht0]; · iexact Ht0
    isplitl [Hl0] <;> iassumption
  iintro ⟨Hl0, Hc0, Hs0, Hr0, HO⟩
  ihave H := (hR 0) $$ [HR0 Hs0]
  · isplitl [HR0] <;> iassumption
  icases H with ⟨HA0, HR0⟩
  iapply a0 $$ [HA0 Hr0]
  · isplitl [HA0] <;> iassumption
  iintro ⟨HA0, Hb0⟩
  iapply e1 $$ [Hf1 Ht1 Hl1 HO]
  · isplitr; · iexact Hctx
    isplitl [Hf1]; · iexact Hf1
    isplitl [Ht1]; · iexact Ht1
    isplitl [Hl1] <;> iassumption
  iintro ⟨Hl1, Hc1, Hs1, Hr1, HO⟩
  ihave H := (hR 1) $$ [HR1 Hs1]
  · isplitl [HR1] <;> iassumption
  icases H with ⟨HA1, HR1⟩
  iapply a1 $$ [HA1 Hr1]
  · isplitl [HA1] <;> iassumption
  iintro ⟨HA1, Hb1⟩
  iapply Hk
  isplitl [Hl0 Hl1]
  · isplitl [Hl0] <;> iassumption
  isplitl [HA0 HA1]
  · isplitl [HA0] <;> iassumption
  isplitl [HR0 HR1]
  · isplitl [HR0] <;> iassumption
  isplitl [Hc0 Hc1 Hb0 Hb1]
  · isplitl [Hc0 Hc1]
    · isplitl [Hc0] <;> iassumption
    isplitl [Hb0] <;> iassumption
  iexact HO

end

end Cert.Cube

end
-- ==== Proof.Stages.lean ====
/- A slab's stages, and the step from each to the next. -/
module

public import proofs.«01_k».proof.Proof.Slab

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A0 : Dev nD → Arr F) (c : Dev nD) (s : Fin 3)

/-- Rows of the slab held at some contents. -/
def some' (M : Memref sig .tc .vmem S1024x1024 .bf16) (a n : ℕ) : sProp 𝕄 := iprop(∃ g : Arr F, held c M (reg a n s) g)

/-- What the gather steps need; with the third reduce step; with the second. -/
def rest3 : sProp 𝕄 :=
  iprop((can (F := F) c s 6 ∗ todo (F := F) c s 6) ∗ (can (F := F) c s 7 ∗ todo (F := F) c s 7) ∗ some' (F := F) c s outM (m2 c s) 256)
def rest2 : sProp 𝕄 := iprop((cans (F := F) c s 2 ∗ todos (F := F) c s 2) ∗ rest3 (F := F) c s)
def rest1 : sProp 𝕄 := iprop((cans (F := F) c s 1 ∗ todos (F := F) c s 1) ∗ rest2 (F := F) c s)

/-- What a slab is done with after each reduce step. -/
def over0 : sProp 𝕄 := iprop(ends (F := F) c s 0 ∗ some' (F := F) c s accM (o1 c s) 512)
def over1 : sProp 𝕄 := iprop(over0 (F := F) c s ∗ ends (F := F) c s 1 ∗ some' (F := F) c s accM (o2 c s) 256)
def over2 : sProp 𝕄 := iprop(over1 (F := F) c s ∗ ends (F := F) c s 2)
def over3 : sProp 𝕄 := iprop(over2 (F := F) c s ∗ some' (F := F) c s accM (m2 c s) 256)

/-- The stages of a slab. -/
def stage : Fin 12 → sProp 𝕄
  | 0 => iprop((cans (F := F) c s 0 ∗ todos (F := F) c s 0) ∗ rest1 (F := F) c s ∗ lefts (F := F) c s 0 0
      ∗ held c accM (reg (o1 c s) 512 s) (part A0 s 0 c) ∗ held c accM (reg (m1 c s) 512 s) (part A0 s 0 c))
  | 1 => iprop((flys (F := F) c s 0 ∗ todos (F := F) c s 0) ∗ rest1 (F := F) c s ∗ lefts (F := F) c s 0 0
      ∗ held c accM (reg (m1 c s) 512 s) (part A0 s 0 c))
  | 2 => iprop(rest1 (F := F) c s ∗ lefts (F := F) c s 1 1 ∗ held c accM (reg (m1 c s) 512 s) (part A0 s 1 c) ∗ over0 (F := F) c s)
  | 3 => iprop((flys (F := F) c s 1 ∗ todos (F := F) c s 1) ∗ rest2 (F := F) c s ∗ lefts (F := F) c s 1 1
      ∗ held c accM (reg (m2 c s) 256 s) (part A0 s 1 c) ∗ over0 (F := F) c s)
  | 4 => iprop(rest2 (F := F) c s ∗ lefts (F := F) c s 2 2 ∗ held c accM (reg (m2 c s) 256 s) (part A0 s 2 c) ∗ over1 (F := F) c s)
  | 5 => iprop((flys (F := F) c s 2 ∗ todos (F := F) c s 2) ∗ rest3 (F := F) c s ∗ lefts (F := F) c s 2 2 ∗ over1 (F := F) c s)
  | 6 => iprop(rest3 (F := F) c s ∗ lefts (F := F) c s 3 3 ∗ held c accM (reg (m2 c s) 256 s) (part A0 s 3 c) ∗ over2 (F := F) c s)
  | 7 => iprop((can (F := F) c s 6 ∗ todo (F := F) c s 6) ∗ (can (F := F) c s 7 ∗ todo (F := F) c s 7)
      ∗ held c outM (reg (m2 c s) 256 s) (gath A0 c s) ∗ lefts (F := F) c s 3 3 ∗ over3 (F := F) c s)
  | 8 => iprop((fly (F := F) c s 6 ∗ todo (F := F) c s 6) ∗ (can (F := F) c s 7 ∗ todo (F := F) c s 7) ∗ lefts (F := F) c s 3 3 ∗ over3 (F := F) c s)
  | 9 => iprop((can (F := F) c s 7 ∗ todo (F := F) c s 7) ∗ held c outM (reg (m1 c s) 512 s) (gath A0 c s)
      ∗ came (F := F) c s 6 ∗ lefts (F := F) c s 4 3 ∗ over3 (F := F) c s)
  | 10 => iprop((fly (F := F) c s 7 ∗ todo (F := F) c s 7) ∗ came (F := F) c s 6 ∗ lefts (F := F) c s 4 3 ∗ over3 (F := F) c s)
  | 11 => iprop(held c outM (reg 0 1024 s) (gath A0 c s) ∗ (came (F := F) c s 6 ∗ came (F := F) c s 7) ∗ lefts (F := F) c s 5 3 ∗ over3 (F := F) c s)

theorem away_of (t : Fin 3) (a : ℕ) (h0 : srow c s (kk t 0) = a) (h1 : srow c s (kk t 1) = a + hh t) (h2 : ∀ h, hr (kk t h) = hh t) :
    held c accM (reg a (hh t + hh t) s) (part A0 s t.val c) ⊢ away c s A0 t := by
  have e0 := snd_of_acc A0 c s (kk t 0) (kk_lt t 0)
  have e1 := snd_of_acc A0 c s (kk t 1) (kk_lt t 1)
  rw [st_kk, h0, h2] at e0
  rw [st_kk, h1, h2] at e1
  exact (rows_split c accM s _ a (hh t) (hh t)).trans (BIClass.sep_mono e0 e1)
theorem of_away (t : Fin 3) (a : ℕ) (h0 : srow c s (kk t 0) = a) (h1 : srow c s (kk t 1) = a + hh t) (h2 : ∀ h, hr (kk t h) = hh t) :
    away c s A0 t ⊢ held c accM (reg a (hh t + hh t) s) (part A0 s t.val c) := by
  have e0 := acc_of_snd A0 c s (kk t 0) (kk_lt t 0)
  have e1 := acc_of_snd A0 c s (kk t 1) (kk_lt t 1)
  rw [st_kk, h0, h2] at e0
  rw [st_kk, h1, h2] at e1
  exact (BIClass.sep_mono e0 e1).trans (rows_join c accM s _ a (hh t) (hh t))

theorem hr_kk (t : Fin 3) (h : Fin 2) : hr (kk t h) = hh t := by fin_cases t <;> fin_cases h <;> rfl

theorem away0 : held c accM (reg (o1 c s) 512 s) (part A0 s 0 c) ⊢ away c s A0 0 := away_of A0 c s 0 (o1 c s) rfl rfl (hr_kk 0)
theorem away1 : held c accM (reg (o2 c s) 256 s) (part A0 s 1 c) ⊢ away c s A0 1 := away_of A0 c s 1 (o2 c s) rfl rfl (hr_kk 1)
theorem away2 : held c accM (reg (m2 c s) 256 s) (part A0 s 2 c) ⊢ away c s A0 2 := away_of A0 c s 2 (m2 c s) rfl rfl (hr_kk 2)
theorem home0 : iprop(sndPay A0 c s (kk 0 0) ∗ sndPay A0 c s (kk 0 1)) ⊢ held c accM (reg (o1 c s) 512 s) (part A0 s 0 c) := of_away A0 c s 0 (o1 c s) rfl rfl (hr_kk 0)
theorem home1 : iprop(sndPay A0 c s (kk 1 0) ∗ sndPay A0 c s (kk 1 1)) ⊢ held c accM (reg (o2 c s) 256 s) (part A0 s 1 c) := of_away A0 c s 1 (o2 c s) rfl rfl (hr_kk 1)

theorem arows_in (t : Fin 3) (a : ℕ) (g : Arr F) (h0 : arow c s t 0 = a) (h1 : arow c s t 1 = a + hh t) :
    held c accM (reg a (hh t + hh t) s) g ⊢ iprop(held c accM (reg (arow c s t 0) (hh t) s) g ∗ held c accM (reg (arow c s t 1) (hh t) s) g) := by
  rw [h0, h1]; exact rows_split c accM s g a (hh t) (hh t)
theorem arows_out (t : Fin 3) (a : ℕ) (g : Arr F) (h0 : arow c s t 0 = a) (h1 : arow c s t 1 = a + hh t) :
    iprop(held c accM (reg (arow c s t 0) (hh t) s) g ∗ held c accM (reg (arow c s t 1) (hh t) s) g) ⊢ held c accM (reg a (hh t + hh t) s) g := by
  rw [h0, h1]; exact rows_join c accM s g a (hh t) (hh t)
theorem into0 (g : Arr F) : held c accM (reg (m1 c s) 512 s) g
    ⊢ iprop(held c accM (reg (arow c s 0 0) (hh 0) s) g ∗ held c accM (reg (arow c s 0 1) (hh 0) s) g) := arows_in c s 0 (m1 c s) g rfl rfl
theorem into1 (g : Arr F) : held c accM (reg (m2 c s) 256 s) g
    ⊢ iprop(held c accM (reg (arow c s 1 0) (hh 1) s) g ∗ held c accM (reg (arow c s 1 1) (hh 1) s) g) := arows_in c s 1 (m2 c s) g rfl rfl
theorem from0 (g : Arr F) : iprop(held c accM (reg (arow c s 0 0) (hh 0) s) g ∗ held c accM (reg (arow c s 0 1) (hh 0) s) g)
    ⊢ held c accM (reg (m1 c s) 512 s) g := arows_out c s 0 (m1 c s) g rfl rfl
theorem from1 (g : Arr F) : iprop(held c accM (reg (arow c s 1 0) (hh 1) s) g ∗ held c accM (reg (arow c s 1 1) (hh 1) s) g)
    ⊢ held c accM (reg (m2 c s) 256 s) g := arows_out c s 1 (m2 c s) g rfl rfl
theorem from2 (g : Arr F) : iprop(held c accM (reg (arow c s 2 0) (hh 2) s) g ∗ held c accM (reg (arow c s 2 1) (hh 2) s) g)
    ⊢ held c accM (reg (m2 c s) 256 s) g := arows_out c s 2 (m2 c s) g rfl rfl

theorem put6 : held c outM (reg (m2 c s) 256 s) (gath A0 c s) ⊢ sndPay A0 c s 6 := snd_of_out A0 c s 6 (by decide)
theorem put7 : held c outM (reg (m1 c s) 512 s) (gath A0 c s) ⊢ sndPay A0 c s 7 := snd_of_out A0 c s 7 (by decide)
theorem got6 : iprop(sndPay A0 c s 6 ∗ rcvPay A0 c s 6) ⊢ held c outM (reg (m1 c s) 512 s) (gath A0 c s) :=
  (sep_comm.1.trans (BIClass.sep_mono (out_of_rcv6 A0 c s) (out_of_snd A0 c s 6 (by decide)))).trans (keep_join c outM s (gath A0 c s))
theorem got7 : iprop(sndPay A0 c s 7 ∗ rcvPay A0 c s 7) ⊢ held c outM (reg 0 1024 s) (gath A0 c s) :=
  (sep_comm.1.trans (BIClass.sep_mono (out_of_rcv7 A0 c s) (out_of_snd A0 c s 7 (by decide)))).trans (slab_join c outM s (gath A0 c s))

theorem at_values : (st 6).val = 3 ∧ (st 7).val = 4 ∧ hf 6 = 0 ∧ hf 7 = 0 := ⟨rfl, rfl, rfl, rfl⟩

end

section
variable (A0 : Dev nD → Arr F) (K : Dev nD × CI → ℕ) (c : Dev nD) (s : Fin 3)

theorem stage0 (n n' : ℕ) (hn : ord (s, kk 0 0) = n) (hn' : n' = n + 2) {Kt : PUnit → sProp 𝕄} :
    iprop(ctx A0 K ∗ stage A0 c s 0 ∗ debt (F := F) c n)
      ⊢ iprop(((stage A0 c s 1 ∗ debt (F := F) c n') -∗ Kt ⟨⟩) -∗ WP (F := F) c (issue c s 0) Kt) := by
  have e := issue_ok A0 K c s 0 n n' hn hn' (Kt := Kt)
  simp only [Fin.val_zero, Fin.val_one, Fin.val_two, Nat.zero_add, Nat.reduceAdd] at e
  unfold stage
  iintro ⟨#Hctx, ⟨⟨Hc, Ht⟩, Hrest, Hl, Ho, Hm⟩, HO⟩ Hk
  ihave Ha := (away0 A0 c s) $$ Ho
  iapply e $$ [Hc Hl Ha HO]
  · isplitr; · iexact Hctx
    isplitl [Hc]; · iexact Hc
    isplitl [Hl]; · iexact Hl
    isplitl [Ha] <;> iassumption
  iintro ⟨Hf, Hl, HO⟩
  iapply Hk
  isplitr [HO]
  · isplitl [Hf Ht]
    · isplitl [Hf] <;> iassumption
    isplitl [Hrest]; · iexact Hrest
    isplitl [Hl] <;> iassumption
  iexact HO

theorem stage1 (n : ℕ) (hn : ∀ sk ∈ pend n, 0 < (st sk.2).val) {Kt : PUnit → sProp 𝕄} :
    iprop(ctx A0 K ∗ stage A0 c s 1 ∗ debt (F := F) c n)
      ⊢ iprop(((stage A0 c s 2 ∗ debt (F := F) c n) -∗ Kt ⟨⟩) -∗ WP (F := F) c (complete c s 0) Kt) := by
  have e := complete_ok A0 K c s 0 n hn (R := fun h => held c accM (reg (arow c s 0 h) (hh 0) s) (part A0 s 0 c)) (R' := fun h => sndPay A0 c s (kk 0 h))
    (fun h => .rfl) (Kt := Kt)
  simp only [Fin.val_zero, Fin.val_one, Fin.val_two, Nat.zero_add, Nat.reduceAdd] at e
  unfold stage over0
  iintro ⟨#Hctx, ⟨⟨Hf, Ht⟩, Hrest, Hl, Hm⟩, HO⟩ Hk
  ihave Hm := (into0 c s (part A0 s 0 c)) $$ Hm
  iapply e $$ [Hf Ht Hl Hm HO]
  · isplitr; · iexact Hctx
    isplitl [Hf]; · iexact Hf
    isplitl [Ht]; · iexact Ht
    isplitl [Hl]; · iexact Hl
    isplitl [Hm] <;> iassumption
  iintro ⟨Hl, Hm, Ha, He, HO⟩
  ihave Hm := (from0 c s (part A0 s 1 c)) $$ Hm
  ihave Ha := (home0 A0 c s) $$ Ha
  iapply Hk
  isplitr [HO]
  · isplitl [Hrest]; · iexact Hrest
    isplitl [Hl]; · iexact Hl
    isplitl [Hm]; · iexact Hm
    isplitl [He]; · iexact He
    unfold some'; iexists _; iexact Ha
  iexact HO

theorem stage2 (n n' : ℕ) (hn : ord (s, kk 1 0) = n) (hn' : n' = n + 2) {Kt : PUnit → sProp 𝕄} :
    iprop(ctx A0 K ∗ stage A0 c s 2 ∗ debt (F := F) c n)
      ⊢ iprop(((stage A0 c s 3 ∗ debt (F := F) c n') -∗ Kt ⟨⟩) -∗ WP (F := F) c (issue c s 1) Kt) := by
  have e := issue_ok A0 K c s 1 n n' hn hn' (Kt := Kt)
  simp only [Fin.val_zero, Fin.val_one, Fin.val_two, Nat.zero_add, Nat.reduceAdd] at e
  unfold stage rest1
  iintro ⟨#Hctx, ⟨⟨⟨Hc, Ht⟩, Hrest⟩, Hl, Hm, Hov⟩, HO⟩ Hk
  ihave Hm := (keep_split c accM s (part A0 s 1 c)) $$ Hm
  icases Hm with ⟨Ho, Hm⟩
  ihave Ha := (away1 A0 c s) $$ Ho
  iapply e $$ [Hc Hl Ha HO]
  · isplitr; · iexact Hctx
    isplitl [Hc]; · iexact Hc
    isplitl [Hl]; · iexact Hl
    isplitl [Ha] <;> iassumption
  iintro ⟨Hf, Hl, HO⟩
  iapply Hk
  isplitr [HO]
  · isplitl [Hf Ht]
    · isplitl [Hf] <;> iassumption
    isplitl [Hrest]; · iexact Hrest
    isplitl [Hl]; · iexact Hl
    isplitl [Hm] <;> iassumption
  iexact HO

theorem stage3 (n : ℕ) (hn : ∀ sk ∈ pend n, 1 < (st sk.2).val) {Kt : PUnit → sProp 𝕄} :
    iprop(ctx A0 K ∗ stage A0 c s 3 ∗ debt (F := F) c n)
      ⊢ iprop(((stage A0 c s 4 ∗ debt (F := F) c n) -∗ Kt ⟨⟩) -∗ WP (F := F) c (complete c s 1) Kt) := by
  have e := complete_ok A0 K c s 1 n hn (R := fun h => held c accM (reg (arow c s 1 h) (hh 1) s) (part A0 s 1 c)) (R' := fun h => sndPay A0 c s (kk 1 h))
    (fun h => .rfl) (Kt := Kt)
  simp only [Fin.val_zero, Fin.val_one, Fin.val_two, Nat.zero_add, Nat.reduceAdd] at e
  unfold stage over1
  iintro ⟨#Hctx, ⟨⟨Hf, Ht⟩, Hrest, Hl, Hm, Hov⟩, HO⟩ Hk
  ihave Hm := (into1 c s (part A0 s 1 c)) $$ Hm
  iapply e $$ [Hf Ht Hl Hm HO]
  · isplitr; · iexact Hctx
    isplitl [Hf]; · iexact Hf
    isplitl [Ht]; · iexact Ht
    isplitl [Hl]; · iexact Hl
    isplitl [Hm] <;> iassumption
  iintro ⟨Hl, Hm, Ha, He, HO⟩
  ihave Hm := (from1 c s (part A0 s 2 c)) $$ Hm
  ihave Ha := (home1 A0 c s) $$ Ha
  iapply Hk
  isplitr [HO]
  · isplitl [Hrest]; · iexact Hrest
    isplitl [Hl]; · iexact Hl
    isplitl [Hm]; · iexact Hm
    isplitl [Hov]; · iexact Hov
    isplitl [He]; · iexact He
    unfold some'; iexists _; iexact Ha
  iexact HO

theorem stage4 (n n' : ℕ) (hn : ord (s, kk 2 0) = n) (hn' : n' = n + 2) {Kt : PUnit → sProp 𝕄} :
    iprop(ctx A0 K ∗ stage A0 c s 4 ∗ debt (F := F) c n)
      ⊢ iprop(((stage A0 c s 5 ∗ debt (F := F) c n') -∗ Kt ⟨⟩) -∗ WP (F := F) c (issue c s 2) Kt) := by
  have e := issue_ok A0 K c s 2 n n' hn hn' (Kt := Kt)
  simp only [Fin.val_zero, Fin.val_one, Fin.val_two, Nat.zero_add, Nat.reduceAdd] at e
  unfold stage rest2
  iintro ⟨#Hctx, ⟨⟨⟨Hc, Ht⟩, Hrest⟩, Hl, Hm, Hov⟩, HO⟩ Hk
  ihave Ha := (away2 A0 c s) $$ Hm
  iapply e $$ [Hc Hl Ha HO]
  · isplitr; · iexact Hctx
    isplitl [Hc]; · iexact Hc
    isplitl [Hl]; · iexact Hl
    isplitl [Ha] <;> iassumption
  iintro ⟨Hf, Hl, HO⟩
  iapply Hk
  isplitr [HO]
  · isplitl [Hf Ht]
    · isplitl [Hf] <;> iassumption
    isplitl [Hrest]; · iexact Hrest
    isplitl [Hl] <;> iassumption
  iexact HO

theorem own_rows (h : Fin 2) : iprop((emp : sProp 𝕄) ∗ sndPay A0 c s (kk 2 h))
    ⊢ iprop(held c accM (reg (arow c s 2 h) (hh 2) s) (part A0 s 2 c) ∗ (emp : sProp 𝕄)) := by
  have e := acc_of_snd A0 c s (kk 2 h) (kk_lt 2 h)
  rw [st_kk, hr_kk, show srow c s (kk 2 h) = arow c s 2 h by fin_cases h <;> rfl] at e
  exact sep_comm.1.trans (sep_mono_left e)

theorem stage5 (n : ℕ) (hn : ∀ sk ∈ pend n, 2 < (st sk.2).val) {Kt : PUnit → sProp 𝕄} :
    iprop(ctx A0 K ∗ stage A0 c s 5 ∗ debt (F := F) c n)
      ⊢ iprop(((stage A0 c s 6 ∗ debt (F := F) c n) -∗ Kt ⟨⟩) -∗ WP (F := F) c (complete c s 2) Kt) := by
  have e := complete_ok A0 K c s 2 n hn (R := fun _ => iprop(emp)) (R' := fun _ => iprop(emp)) (own_rows A0 c s) (Kt := Kt)
  simp only [Fin.val_zero, Fin.val_one, Fin.val_two, Nat.zero_add, Nat.reduceAdd] at e
  unfold stage over2
  iintro ⟨#Hctx, ⟨⟨Hf, Ht⟩, Hrest, Hl, Hov⟩, HO⟩ Hk
  iapply e $$ [Hf Ht Hl HO]
  · isplitr; · iexact Hctx
    isplitl [Hf]; · iexact Hf
    isplitl [Ht]; · iexact Ht
    isplitl [Hl]; · iexact Hl
    isplitr; · isplitl <;> iempintro
    iexact HO
  iintro ⟨Hl, Hm, -, He, HO⟩
  ihave Hm := (from2 c s (part A0 s 3 c)) $$ Hm
  iapply Hk
  isplitr [HO]
  · isplitl [Hrest]; · iexact Hrest
    isplitl [Hl]; · iexact Hl
    isplitl [Hm]; · iexact Hm
    isplitl [Hov] <;> iassumption
  iexact HO

theorem stage6 {Kt : PUnit → sProp 𝕄} :
    stage A0 c s 6 ⊢ iprop((stage A0 c s 7 -∗ Kt ⟨⟩) -∗ WP (F := F) c (copy c s) Kt) := by
  have e := copy_ok A0 c s (Kt := Kt)
  unfold stage rest3 over3
  iintro ⟨⟨H6, H7, Ho⟩, Hl, Hm, Hov⟩ Hk
  iapply e $$ [Hm Ho]
  · isplitl [Hm]; · iexact Hm
    unfold some'; iexact Ho
  iintro ⟨Hm, Ho⟩
  iapply Hk
  isplitl [H6]; · iexact H6
  isplitl [H7]; · iexact H7
  isplitl [Ho]; · iexact Ho
  isplitl [Hl]; · iexact Hl
  isplitl [Hov]; · iexact Hov
  unfold some'; iexists _; iexact Hm

theorem stage7 (n n' : ℕ) (hn : ord (s, 6) = n) (hn' : n' = n + 1) {Kt : PUnit → sProp 𝕄} :
    iprop(ctx A0 K ∗ stage A0 c s 7 ∗ debt (F := F) c n)
      ⊢ iprop(((stage A0 c s 8 ∗ debt (F := F) c n') -∗ Kt ⟨⟩) -∗ WP (F := F) c (send c s 6) Kt) := by
  subst hn hn'
  have e := send_ok A0 K c s 6 (Kt := Kt)
  simp only [at_values, Nat.reduceAdd] at e
  unfold stage lefts
  iintro ⟨#Hctx, ⟨⟨H6, Ht⟩, H7, Ho, ⟨Hl0, Hl1⟩, Hov⟩, HO⟩ Hk
  ihave Ho := (put6 A0 c s) $$ Ho
  iapply e $$ [H6 Hl0 Ho HO]
  · isplitr; · iexact Hctx
    isplitl [H6]; · iexact H6
    isplitl [Hl0]; · iexact Hl0
    isplitl [Ho] <;> iassumption
  iintro ⟨Hf, Hl0, HO⟩
  iapply Hk
  isplitr [HO]
  · isplitl [Hf Ht]
    · isplitl [Hf] <;> iassumption
    isplitl [H7]; · iexact H7
    isplitl [Hl0 Hl1]
    · isplitl [Hl0] <;> iassumption
    iexact Hov
  iexact HO

theorem stage8 (n : ℕ) (hn : ∀ sk ∈ pend n, 3 < (st sk.2).val) {Kt : PUnit → sProp 𝕄} :
    iprop(ctx A0 K ∗ stage A0 c s 8 ∗ debt (F := F) c n)
      ⊢ iprop(((stage A0 c s 9 ∗ debt (F := F) c n) -∗ Kt ⟨⟩) -∗ WP (F := F) c (await c s 6) Kt) := by
  have e := await_ok A0 K c s 6 n hn (Kt := Kt)
  simp only [at_values, Nat.reduceAdd] at e
  unfold stage lefts
  iintro ⟨#Hctx, ⟨⟨Hf, Ht⟩, H7, ⟨Hl0, Hl1⟩, Hov⟩, HO⟩ Hk
  iapply e $$ [Hf Ht Hl0 HO]
  · isplitr; · iexact Hctx
    isplitl [Hf]; · iexact Hf
    isplitl [Ht]; · iexact Ht
    isplitl [Hl0] <;> iassumption
  iintro ⟨Hl0, Hc, Hs, Hr, HO⟩
  ihave Hm := (got6 A0 c s) $$ [Hs Hr]
  · isplitl [Hs] <;> iassumption
  iapply Hk
  isplitr [HO]
  · isplitl [H7]; · iexact H7
    isplitl [Hm]; · iexact Hm
    isplitl [Hc]; · iexact Hc
    isplitl [Hl0 Hl1]
    · isplitl [Hl0] <;> iassumption
    iexact Hov
  iexact HO

theorem stage9 (n n' : ℕ) (hn : ord (s, 7) = n) (hn' : n' = n + 1) {Kt : PUnit → sProp 𝕄} :
    iprop(ctx A0 K ∗ stage A0 c s 9 ∗ debt (F := F) c n)
      ⊢ iprop(((stage A0 c s 10 ∗ debt (F := F) c n') -∗ Kt ⟨⟩) -∗ WP (F := F) c (send c s 7) Kt) := by
  subst hn hn'
  have e := send_ok A0 K c s 7 (Kt := Kt)
  simp only [at_values, Nat.reduceAdd] at e
  unfold stage lefts
  iintro ⟨#Hctx, ⟨⟨H7, Ht⟩, Ho, Hc, ⟨Hl0, Hl1⟩, Hov⟩, HO⟩ Hk
  ihave Ho := (put7 A0 c s) $$ Ho
  iapply e $$ [H7 Hl0 Ho HO]
  · isplitr; · iexact Hctx
    isplitl [H7]; · iexact H7
    isplitl [Hl0]; · iexact Hl0
    isplitl [Ho] <;> iassumption
  iintro ⟨Hf, Hl0, HO⟩
  iapply Hk
  isplitr [HO]
  · isplitl [Hf Ht]
    · isplitl [Hf] <;> iassumption
    isplitl [Hc]; · iexact Hc
    isplitl [Hl0 Hl1]
    · isplitl [Hl0] <;> iassumption
    iexact Hov
  iexact HO

theorem stage10 (n : ℕ) (hn : ∀ sk ∈ pend n, 4 < (st sk.2).val) {Kt : PUnit → sProp 𝕄} :
    iprop(ctx A0 K ∗ stage A0 c s 10 ∗ debt (F := F) c n)
      ⊢ iprop(((stage A0 c s 11 ∗ debt (F := F) c n) -∗ Kt ⟨⟩) -∗ WP (F := F) c (await c s 7) Kt) := by
  have e := await_ok A0 K c s 7 n hn (Kt := Kt)
  simp only [at_values, Nat.reduceAdd] at e
  unfold stage lefts
  iintro ⟨#Hctx, ⟨⟨Hf, Ht⟩, Hc6, ⟨Hl0, Hl1⟩, Hov⟩, HO⟩ Hk
  iapply e $$ [Hf Ht Hl0 HO]
  · isplitr; · iexact Hctx
    isplitl [Hf]; · iexact Hf
    isplitl [Ht]; · iexact Ht
    isplitl [Hl0] <;> iassumption
  iintro ⟨Hl0, Hc, Hs, Hr, HO⟩
  ihave Hm := (got7 A0 c s) $$ [Hs Hr]
  · isplitl [Hs] <;> iassumption
  iapply Hk
  isplitr [HO]
  · isplitl [Hm]; · iexact Hm
    isplitl [Hc6 Hc]
    · isplitl [Hc6] <;> iassumption
    isplitl [Hl0 Hl1]
    · isplitl [Hl0] <;> iassumption
    iexact Hov
  iexact HO

end

end Cert.Cube

end
-- ==== Proof.Areas.lean ====
/- What a device lends its neighbours at the barrier and gets back in the end; a slab's first and last stage. -/
module

public import proofs.«01_k».proof.Proof.Stages

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families one by one -/

theorem two (Ξ : Fin 2 → sProp 𝕄) : bigSep Finset.univ Ξ = iprop(Ξ 0 ∗ Ξ 1) := bigSep_univ_eq_bigSepL [0, 1] (by decide) (by decide) Ξ
theorem three (Φ : Fin 3 → sProp 𝕄) : bigSep Finset.univ Φ = iprop(Φ 0 ∗ Φ 1 ∗ Φ 2) := bigSep_univ_eq_bigSepL [0, 1, 2] (by decide) (by decide) Φ
theorem eight (Ψ : Fin 8 → sProp 𝕄) : bigSep Finset.univ Ψ = iprop(Ψ 0 ∗ Ψ 1 ∗ Ψ 2 ∗ Ψ 3 ∗ Ψ 4 ∗ Ψ 5 ∗ Ψ 6 ∗ Ψ 7) :=
  bigSep_univ_eq_bigSepL [0, 1, 2, 3, 4, 5, 6, 7] (by decide) (by decide) Ψ

/-- All transfers, axis by axis. -/
theorem by_axis (Θ : Fin 3 × Fin 8 → sProp 𝕄) : bigSep Finset.univ Θ = bigSep Finset.univ fun a : Fin 3 => bigSep (along a) Θ := by
  rw [bigSep_fiberwise Finset.univ (fun sk : Fin 3 × Fin 8 => ax sk.1 sk.2) Θ,
    show (Finset.univ.image fun sk : Fin 3 × Fin 8 => ax sk.1 sk.2) = Finset.univ by decide]
  rfl

/-! ## Places at any contents -/

section
variable {sp : Space} {sh : Shape} {e : EltTy} (c : Dev nD) (M : Memref sig .tc sp sh e)

theorem some_join {S A B : Finset sh.Idx} (hS : S = A ∪ B) (hd : Disjoint A B) :
    iprop((∃ g : sh.Idx → Elt F e, held c M A g) ∗ (∃ g : sh.Idx → Elt F e, held c M B g)) ⊢ (iprop(∃ g : sh.Idx → Elt F e, held c M S g) : sProp 𝕄) := by
  iintro ⟨⟨%g, HA⟩, %g', HB⟩
  iexists B.piecewise g' g
  iapply (held_join c M hS hd _)
  isplitl [HA]
  · iapply (held_congr c M (fun x hx => (Finset.piecewise_eq_of_notMem _ _ _ (Finset.disjoint_left.mp hd hx)).symm)) $$ HA
  · iapply (held_congr c M (fun x hx => (Finset.piecewise_eq_of_mem _ _ _ hx).symm)) $$ HB

theorem some_of_owns (r : Rect sh) (hr : ∀ a, r.stride a = 1) :
    iprop(∃ Y : r.shape.Idx → Elt F e, owns (c : Thread nD τ) (M.slice r hr) fullShare Y) ⊢ (iprop(∃ g : sh.Idx → Elt F e, held c M r.set g) : sProp 𝕄) := by
  unfold owns held
  iintro ⟨%Y, %f, -, H⟩
  iexists (M.view.read (Elt F) f), f
  isplitr; · ipureintro; exact fun _ _ => rfl
  iapply (Entails.of_eq (congrArg (fun I => (M.view.loc (c : Thread nD τ) ↦[I]{fullShare} f : sProp 𝕄)) (M.view.set_slice r)))
  iexact H

theorem some_owns (r : Rect sh) (hr : ∀ a, r.stride a = 1) (g : sh.Idx → Elt F e) :
    held c M r.set g ⊢ (iprop(∃ Y : r.shape.Idx → Elt F e, owns (c : Thread nD τ) (M.slice r hr) fullShare Y) : sProp 𝕄) := by
  iintro H
  iexists (fun x => g (r.emb x))
  iapply (owns_of_held c M r hr g) $$ H

end

/-! ## Landing buffers -/

theorem half_rows (s t : Fin 3) (h : Fin 2) : (T s (kk t h)).size 0 = hh t := by fin_cases t <;> fin_cases h <;> rfl
theorem half_cols (s t : Fin 3) (h : Fin 2) : (T s (kk t h)).size 1 = cw s := by fin_cases t <;> fin_cases h <;> rfl
theorem two_halves (t : Fin 3) : bh t = hh t + hh t := by fin_cases t <;> rfl
theorem mem_half (s t : Fin 3) (h : Fin 2) (i : (⟨2, ![bh t, cw s]⟩ : Shape).Idx) :
    i ∈ (brect s t h).set ↔ h.val * hh t ≤ (i 0).val ∧ (i 0).val < h.val * hh t + hh t := by
  have h1 : (i 1).val < cw s := (i 1).isLt
  have e0 := half_rows s t h
  have e1 := half_cols s t h
  unfold brect
  rw [Rect.mem_set_unit, Fin.forall_fin_two]
  change (h.val * hh t ≤ (i 0).val ∧ (i 0).val < h.val * hh t + (T s (kk t h)).size 0) ∧ (0 ≤ (i 1).val ∧ (i 1).val < 0 + (T s (kk t h)).size 1) ↔ _
  rw [e0, e1]
  omega
theorem halves_union (s t : Fin 3) : (Finset.univ : Finset (⟨2, ![bh t, cw s]⟩ : Shape).Idx) = (brect s t 0).set ∪ (brect s t 1).set := by
  ext i
  have h0 : (i 0).val < bh t := (i 0).isLt
  have h2 := two_halves t
  rw [Finset.mem_union, mem_half, mem_half]
  simp only [Finset.mem_univ, Fin.val_zero, Fin.val_one, Nat.zero_mul, Nat.one_mul, true_iff]
  omega
theorem halves_disj (s t : Fin 3) : Disjoint (brect s t 0).set (brect s t 1).set := by
  rw [Finset.disjoint_left]; intro i h h'
  rw [mem_half] at h h'
  simp only [Fin.val_zero, Fin.val_one, Nat.zero_mul, Nat.one_mul] at h h'
  omega

section
variable (c : Dev nD) (s : Fin 3)

def buf (t : Fin 3) : sProp 𝕄 := iprop(∃ u : (⟨2, ![bh t, cw s]⟩ : Shape).Idx → Elt F .bf16, held c (bufM s t) Finset.univ u)
def bufs : sProp 𝕄 := iprop(buf (F := F) c s 0 ∗ buf (F := F) c s 1 ∗ buf (F := F) c s 2)

theorem backs_of_buf (t : Fin 3) : buf (F := F) c s t ⊢ iprop(back (F := F) c s (kk t 0) ∗ back (F := F) c s (kk t 1)) := by
  unfold buf back
  rw [dst_buf, dst_buf]
  iintro ⟨%u, H⟩
  ihave H := (held_split c (bufM s t) (halves_union s t) (halves_disj s t) u) $$ H
  icases H with ⟨H0, H1⟩
  isplitl [H0]
  · iapply (some_owns c (bufM s t) (brect s t 0) (fun _ => rfl) u) $$ H0
  · iapply (some_owns c (bufM s t) (brect s t 1) (fun _ => rfl) u) $$ H1
theorem buf_of_backs (t : Fin 3) : iprop(back (F := F) c s (kk t 0) ∗ back (F := F) c s (kk t 1)) ⊢ buf (F := F) c s t := by
  unfold buf back
  rw [dst_buf, dst_buf]
  exact (BIClass.sep_mono (some_of_owns c (bufM s t) (brect s t 0) (fun _ => rfl)) (some_of_owns c (bufM s t) (brect s t 1) (fun _ => rfl))).trans
    (some_join c (bufM s t) (halves_union s t) (halves_disj s t))

theorem back_of_out (k : Fin 8) (hk : 6 ≤ k.val) {a : ℕ} (ha : soff (sdev c s k) s k = ![a, c0 s]) (g : Arr F) :
    held c outM (reg a (hr k) s) g ⊢ back (F := F) c s k := by
  unfold back; rw [dst_out _ s k hk, ← rect_reg (inb := soff_inb (sdev c s k) s k) ha rfl]
  exact some_owns c outM (srect (sdev c s k) s k) (fun _ => rfl) g
theorem back6 (g : Arr F) : held c outM (reg (o2 c s) 256 s) g ⊢ back (F := F) c s 6 := back_of_out c s 6 (by decide) (soff_6 c s) g
theorem back7 (g : Arr F) : held c outM (reg (o1 c s) 512 s) g ⊢ back (F := F) c s 7 := back_of_out c s 7 (by decide) (soff_7 c s) g

/-- A slab's landing places are lent; the rows the device finishes itself stay. -/
theorem lend (g : Arr F) : iprop(bufs (F := F) c s ∗ held c outM (reg 0 1024 s) g)
    ⊢ iprop((bigSep Finset.univ fun k : Fin 8 => back (F := F) c s k) ∗ some' (F := F) c s outM (m2 c s) 256) := by
  have h0 : buf (F := F) c s 0 ⊢ iprop(back (F := F) c s 0 ∗ back (F := F) c s 1) := backs_of_buf c s 0
  have h1 : buf (F := F) c s 1 ⊢ iprop(back (F := F) c s 2 ∗ back (F := F) c s 3) := backs_of_buf c s 1
  have h2 : buf (F := F) c s 2 ⊢ iprop(back (F := F) c s 4 ∗ back (F := F) c s 5) := backs_of_buf c s 2
  rw [eight]
  unfold bufs
  iintro ⟨⟨B0, B1, B2⟩, Ho⟩
  ihave B0 := h0 $$ B0
  ihave B1 := h1 $$ B1
  ihave B2 := h2 $$ B2
  ihave Ho := (slab_split c outM s g) $$ Ho
  icases Ho with ⟨H7, Ho⟩
  ihave Ho := (keep_split c outM s g) $$ Ho
  icases Ho with ⟨H6, Ho⟩
  ihave H6 := (back6 c s g) $$ H6
  ihave H7 := (back7 c s g) $$ H7
  icases B0 with ⟨Ba, Bb⟩
  icases B1 with ⟨Bc, Bd⟩
  icases B2 with ⟨Be, Bf⟩
  isplitr [Ho]
  · isplitl [Ba]; · iexact Ba
    isplitl [Bb]; · iexact Bb
    isplitl [Bc]; · iexact Bc
    isplitl [Bd]; · iexact Bd
    isplitl [Be]; · iexact Be
    isplitl [Bf]; · iexact Bf
    isplitl [H6] <;> iassumption
  unfold some'; iexists g; iexact Ho

/-- What a slab starts with. -/
theorem slab_in (A0 : Dev nD → Arr F) :
    iprop((bigSep Finset.univ fun k : Fin 8 => tok (F := F) c s k) ∗ (bigSep Finset.univ fun k : Fin 8 => land (F := F) c s k)
        ∗ (bigSep Finset.univ fun k : Fin 8 => todo (F := F) c s k) ∗ lefts (F := F) c s 0 0 ∗ some' (F := F) c s outM (m2 c s) 256
        ∗ held c accM (reg 0 1024 s) (part A0 s 0 c))
      ⊢ stage A0 c s 0 := by
  rw [eight, eight, eight]
  unfold stage rest1 rest2 rest3 cans todos can
  iintro ⟨⟨K0, K1, K2, K3, K4, K5, K6, K7⟩, ⟨L0, L1, L2, L3, L4, L5, L6, L7⟩, ⟨T0, T1, T2, T3, T4, T5, T6, T7⟩, Hl, Ho, Ha⟩
  ihave Ha := (slab_split c accM s (part A0 s 0 c)) $$ Ha
  isplitl [K0 L0 K1 L1 T0 T1]
  · isplitl [K0 L0 K1 L1]
    · isplitl [K0 L0]
      · isplitl [K0]; · iexact K0
        iexact L0
      · isplitl [K1]; · iexact K1
        iexact L1
    · isplitl [T0]; · iexact T0
      iexact T1
  isplitr [Hl Ha]
  · isplitl [K2 L2 K3 L3 T2 T3]
    · isplitl [K2 L2 K3 L3]
      · isplitl [K2 L2]
        · isplitl [K2]; · iexact K2
          iexact L2
        · isplitl [K3]; · iexact K3
          iexact L3
      · isplitl [T2]; · iexact T2
        iexact T3
    isplitl [K4 L4 K5 L5 T4 T5]
    · isplitl [K4 L4 K5 L5]
      · isplitl [K4 L4]
        · isplitl [K4]; · iexact K4
          iexact L4
        · isplitl [K5]; · iexact K5
          iexact L5
      · isplitl [T4]; · iexact T4
        iexact T5
    isplitl [K6 L6 T6]
    · isplitl [K6 L6]
      · isplitl [K6] <;> iassumption
      · iexact T6
    isplitl [K7 L7 T7]
    · isplitl [K7 L7]
      · isplitl [K7] <;> iassumption
      · iexact T7
    iexact Ho
  isplitl [Hl] <;> iassumption

/-- A slab of the accumulator, at any contents, from its rows. -/
theorem acc_back : iprop(some' (F := F) c s accM (o1 c s) 512 ∗ some' (F := F) c s accM (o2 c s) 256 ∗ some' (F := F) c s accM (m2 c s) 256)
    ⊢ some' (F := F) c s accM 0 1024 := by
  unfold some'
  have hk : reg (m1 c s) 512 s = reg (o2 c s) 256 s ∪ reg (m2 c s) 256 s ∧ Disjoint (reg (o2 c s) 256 s) (reg (m2 c s) 256 s) := by
    rcases rows2 c s with ⟨h1, h2⟩ | ⟨h1, h2⟩ <;> rw [h1, h2]
    · exact ⟨reg_add _ 256 256 s, reg_disj _ 256 256 s⟩
    · exact ⟨(reg_add _ 256 256 s).trans (Finset.union_comm _ _), (reg_disj _ 256 256 s).symm⟩
  have hs : reg 0 1024 s = reg (o1 c s) 512 s ∪ reg (m1 c s) 512 s ∧ Disjoint (reg (o1 c s) 512 s) (reg (m1 c s) 512 s) := by
    rcases rows1 c s with ⟨h1, h2⟩ | ⟨h1, h2⟩ <;> rw [h1, h2]
    · exact ⟨reg_add 0 512 512 s, reg_disj 0 512 512 s⟩
    · exact ⟨(reg_add 0 512 512 s).trans (Finset.union_comm _ _), (reg_disj 0 512 512 s).symm⟩
  exact (sep_mono_right (some_join c accM hk.1 hk.2)).trans (some_join c accM hs.1 hs.2)

/-- What a slab ends with. -/
theorem slab_out (A0 : Dev nD → Arr F) : stage A0 c s 11
      ⊢ iprop(held c outM (reg 0 1024 s) (gath A0 c s) ∗ some' (F := F) c s accM 0 1024 ∗ bufs (F := F) c s
        ∗ (bigSep Finset.univ fun k : Fin 8 => came (F := F) c s k) ∗ lefts (F := F) c s 5 3) := by
  have h0 : iprop(back (F := F) c s (kk 0 0) ∗ back (F := F) c s (kk 0 1)) ⊢ buf (F := F) c s 0 := buf_of_backs c s 0
  have h1 : iprop(back (F := F) c s (kk 1 0) ∗ back (F := F) c s (kk 1 1)) ⊢ buf (F := F) c s 1 := buf_of_backs c s 1
  have h2 : iprop(back (F := F) c s (kk 2 0) ∗ back (F := F) c s (kk 2 1)) ⊢ buf (F := F) c s 2 := buf_of_backs c s 2
  rw [eight]
  unfold stage over3 over2 over1 over0 ends bufs
  iintro ⟨Ho, ⟨C6, C7⟩, Hl, ⟨⟨⟨⟨⟨C0, C1⟩, B0⟩, A0⟩, ⟨⟨C2, C3⟩, B1⟩, A1⟩, ⟨C4, C5⟩, B2⟩, A2⟩
  ihave B0 := h0 $$ B0
  ihave B1 := h1 $$ B1
  ihave B2 := h2 $$ B2
  ihave Ha := (acc_back (F := F) c s) $$ [A0 A1 A2]
  · isplitl [A0]; · iexact A0
    isplitl [A1] <;> iassumption
  isplitl [Ho]; · iexact Ho
  isplitl [Ha]; · iexact Ha
  isplitl [B0 B1 B2]
  · isplitl [B0]; · iexact B0
    isplitl [B1] <;> iassumption
  isplitr [Hl]
  · isplitl [C0]; · iexact C0
    isplitl [C1]; · iexact C1
    isplitl [C2]; · iexact C2
    isplitl [C3]; · iexact C3
    isplitl [C4]; · iexact C4
    isplitl [C5]; · iexact C5
    isplitl [C6] <;> iassumption
  iexact Hl

end

/-! ## The barrier's payloads -/

theorem land_nb (c : Dev nD) (s : Fin 3) (k : Fin 8) (a : Fin 3) (h : ax s k = a) : land (F := F) (nb c a) s k = back c s k := by
  subst h
  unfold land back
  rw [← sdev_eq, sdev_sdev]

/-- What is lent, by neighbour; what the neighbours lend, by transfer. -/
theorem give (c : Dev nD) : (bigSep Finset.univ fun sk : Fin 3 × Fin 8 => back (F := F) c sk.1 sk.2)
    = bigSep Finset.univ fun a : Fin 3 => barPay (F := F) (nb c a) a := by
  rw [by_axis]
  refine bigSep_congr fun a _ => ?_
  unfold barPay
  exact bigSep_congr fun sk hsk => (land_nb c sk.1 sk.2 a (Finset.mem_filter.mp hsk).2).symm
theorem take (c : Dev nD) : (bigSep Finset.univ fun a : Fin 3 => barPay (F := F) c a)
    = bigSep Finset.univ fun sk : Fin 3 × Fin 8 => land (F := F) c sk.1 sk.2 := by
  rw [by_axis]; rfl

end Cert.Cube

end
-- ==== Proof.Barrier.lean ====
/- The barrier: the three neighbours are told, and are waited for. -/
module

public import proofs.«01_k».proof.Proof.Areas

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A0 : Dev nD → Arr F) (K : Dev nD × CI → ℕ) (c : Dev nD)

/-- One signal to a neighbour. -/
theorem signal_ok (a : Fin 3) (O : CellTallies nD τ sig Unit) {α : Type} {Q : α → sProp 𝕄} {k : PUnit → Prog (TpuEff nD τ sig (Elt F) Λ₀ .tc) α}
    (W : Waits sig Unit) :
    iprop(ctx A0 K ∗ owes (c : Thread nD τ) (O + tallyAt (barCell (nb c a)) () 1) W ∗ dutyTok ER (barCell (nb c a)) 0 a ∗ barPay (F := F) (nb c a) a)
      ⊢ iprop((owes (c : Thread nD τ) O W -∗ WP (F := F) c (k ⟨⟩) Q) -∗ WP (F := F) c (.op (.semSignal ((nb c a : Dev nD) : Thread nD τ) barS 1) k) Q) := by
  iintro ⟨#Hctx, HO, Ht, Hp⟩ Hk
  ihave #HI := (ctx_inv A0 K (nb c a, .inl ())) $$ Hctx
  ihave #HR := (ctx_reached A0 K (nb c a, .inl ())) $$ Hctx
  iapply (Rounds.wp_signal 𝒱₀ ER (Rd A0) (c : Thread nD τ) none (dst := ((nb c a : Dev nD) : Thread nD τ)) (κ := K (nb c a, .inl ()))
      (d := a) (r := 0) (by rw [duties_bar]; exact Finset.mem_univ _) (amount_bar A0 (nb c a) a) () O rfl) $$ [HO Ht Hp]
  · isplitr; · iexact HI
    isplitl [HO]; · iexact HO
    isplitl [Ht]; · iexact Ht
    isplitl [Hp]; · rw [payload_bar]; iexact Hp
    iexact HR
  iexact Hk

theorem barrier_ok {Kt : PUnit → sProp 𝕄} :
    iprop(ctx A0 K ∗ (bigSep Finset.univ fun a : Fin 3 => dutyTok ER (barCell (nb c a)) 0 a) ∗ (bigSep Finset.univ fun a : Fin 3 => barPay (F := F) (nb c a) a)
        ∗ cred (tallyAt (barCell c) () 3) ∗ atPos ER (barCell c) 0 ∅ 0 ∗ (∃ W, owes (c : Thread nD τ) (O₀ c) W))
      ⊢ iprop(((atPos ER (barCell c) 1 ∅ 0 ∗ (bigSep Finset.univ fun a : Fin 3 => barPay (F := F) c a) ∗ debt (F := F) c 0) -∗ Kt ⟨⟩)
          -∗ WP (F := F) c (barrier c) Kt) := by
  rw [three, three]
  unfold barrier O₀
  simp only [semSignalWord, semWaitWord, Prog.lift, Prog.bind_op, Prog.bind_ret, Prog.pure_eq_ret]
  iintro ⟨#Hctx, ⟨T0, T1, T2⟩, ⟨P0, P1, P2⟩, Hc, Hat, %W, HO⟩ Hk
  iapply (signal_ok A0 K c 0 _ W) $$ [HO T0 P0]
  · isplitr; · iexact Hctx
    isplitl [HO]; · iexact HO
    isplitl [T0] <;> iassumption
  iintro HO
  iapply (signal_ok A0 K c 1 _ W) $$ [HO T1 P1]
  · isplitr; · iexact Hctx
    isplitl [HO]; · iexact HO
    isplitl [T1] <;> iassumption
  iintro HO
  iapply (signal_ok A0 K c 2 _ W) $$ [HO T2 P2]
  · isplitr; · iexact Hctx
    isplitl [HO]; · iexact HO
    isplitl [T2] <;> iassumption
  iintro HO
  ihave #HI := (ctx_inv A0 K (c, .inl ())) $$ Hctx
  ihave #Hlev := (ctx_lev A0 K) $$ Hctx
  iapply (Rounds.wp_wait_rest_token 𝒱₀ ER (Rd A0) (c : Thread nD τ) none (κ := K (c, .inl ()))
      (wpE_semWait_eq 𝒱₀ (c : Thread nD τ) none Set.univ) (Set.mem_univ _) () (O := due c 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_due c (.reg barS) 0 (fun sk _ => by dsimp only [lv]; rw [role_bar]; dsimp only; omega)); iexact Hlev
    iexact Hat
  iintro ⟨HO, Hat, -, Hp⟩
  ihave Hp := (Entails.of_eq (rest_bar A0 c)) $$ Hp
  rw [wp_ret]; imodintro
  iapply Hk
  isplitl [Hat]; · iexact Hat
  isplitl [Hp]; · iexact Hp
  unfold debt; iexists _; iexact HO

end

end Cert.Cube

end
-- ==== Proof.Exchange.lean ====
/- The whole exchange: the steps of the three slabs in the order the kernel takes them. -/
module

public import proofs.«01_k».proof.Proof.Stages

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A0 : Dev nD → Arr F) (K : Dev nD × CI → ℕ) (c : Dev nD)

/-- A step that takes slab `s` from stage `i` to stage `j` and the debt from `n` to `n'`. -/
def Moves (s : Fin 3) (i j : Fin 12) (n n' : ℕ) (p : Prog (TpuEff nD τ sig (Elt F) Λ₀ .tc) PUnit) : Prop :=
  ∀ Kt : PUnit → sProp 𝕄, iprop(ctx A0 K ∗ stage A0 c s i ∗ debt (F := F) c n)
    ⊢ iprop(((stage A0 c s j ∗ debt (F := F) c n') -∗ Kt ⟨⟩) -∗ WP (F := F) c p Kt)

/-- A program that takes the three slabs from their stages to the last. -/
def Ends (i j l : Fin 12) (n : ℕ) (p : Prog (TpuEff nD τ sig (Elt F) Λ₀ .tc) PUnit) : Prop :=
  ∀ Kt : PUnit → sProp 𝕄, iprop(ctx A0 K ∗ (stage A0 c 0 i ∗ stage A0 c 1 j ∗ stage A0 c 2 l) ∗ debt (F := F) c n)
    ⊢ iprop((((stage A0 c 0 11 ∗ stage A0 c 1 11 ∗ stage A0 c 2 11) ∗ debt (F := F) c 24) -∗ Kt ⟨⟩) -∗ WP (F := F) c p Kt)

variable {i j l i' : Fin 12} {n n' : ℕ} {p q : Prog (TpuEff nD τ sig (Elt F) Λ₀ .tc) PUnit}

theorem on0 (h : Moves A0 K c 0 i i' n n' p) (hq : Ends A0 K c i' j l n' q) : Ends A0 K c i j l n (p >>= fun _ => q) := by
  intro Kt
  have e := h (fun _ => WP (F := F) c q Kt)
  have e' := hq Kt
  unfold WP at *
  rw [wp_bind]
  iintro ⟨#Hctx, ⟨H0, H1, H2⟩, HO⟩ Hk
  iapply e $$ [H0 HO]
  · isplitr; · iexact Hctx
    isplitl [H0] <;> iassumption
  iintro ⟨H0, HO⟩
  iapply e' $$ [H0 H1 H2 HO]
  · isplitr; · iexact Hctx
    isplitr [HO]
    · isplitl [H0]; · iexact H0
      isplitl [H1] <;> iassumption
    iexact HO
  iexact Hk

theorem on1 (h : Moves A0 K c 1 j i' n n' p) (hq : Ends A0 K c i i' l n' q) : Ends A0 K c i j l n (p >>= fun _ => q) := by
  intro Kt
  have e := h (fun _ => WP (F := F) c q Kt)
  have e' := hq Kt
  unfold WP at *
  rw [wp_bind]
  iintro ⟨#Hctx, ⟨H0, H1, H2⟩, HO⟩ Hk
  iapply e $$ [H1 HO]
  · isplitr; · iexact Hctx
    isplitl [H1] <;> iassumption
  iintro ⟨H1, HO⟩
  iapply e' $$ [H0 H1 H2 HO]
  · isplitr; · iexact Hctx
    isplitr [HO]
    · isplitl [H0]; · iexact H0
      isplitl [H1] <;> iassumption
    iexact HO
  iexact Hk

theorem on2 (h : Moves A0 K c 2 l i' n n' p) (hq : Ends A0 K c i j i' n' q) : Ends A0 K c i j l n (p >>= fun _ => q) := by
  intro Kt
  have e := h (fun _ => WP (F := F) c q Kt)
  have e' := hq Kt
  unfold WP at *
  rw [wp_bind]
  iintro ⟨#Hctx, ⟨H0, H1, H2⟩, HO⟩ Hk
  iapply e $$ [H2 HO]
  · isplitr; · iexact Hctx
    isplitl [H2] <;> iassumption
  iintro ⟨H2, HO⟩
  iapply e' $$ [H0 H1 H2 HO]
  · isplitr; · iexact Hctx
    isplitr [HO]
    · isplitl [H0]; · iexact H0
      isplitl [H1] <;> iassumption
    iexact HO
  iexact Hk

theorem last (h : Moves A0 K c 2 l 11 n 24 p) : Ends A0 K c 11 11 l n p := by
  intro Kt
  have e := h Kt
  iintro ⟨#Hctx, ⟨H0, H1, H2⟩, HO⟩ Hk
  iapply e $$ [H2 HO]
  · isplitr; · iexact Hctx
    isplitl [H2] <;> iassumption
  iintro ⟨H2, HO⟩
  iapply Hk
  isplitr [HO]
  · isplitl [H0]; · iexact H0
    isplitl [H1] <;> iassumption
  iexact HO

theorem copies (s : Fin 3) (n : ℕ) : Moves A0 K c s 6 7 n n (copy c s) := by
  intro Kt
  have e := stage6 A0 c s (Kt := Kt)
  iintro ⟨-, H, HO⟩ Hk
  iapply e $$ H
  iintro H
  iapply Hk
  isplitl [H] <;> iassumption

/-- The exchange takes every slab from its first stage to its last. -/
theorem exchange_ok : Ends A0 K c 0 0 0 0 (exchange (F := F) c) := by
  unfold exchange
  refine on0 A0 K c (fun _ => stage0 A0 K c 0 0 2 rfl rfl) ?_
  refine on1 A0 K c (fun _ => stage0 A0 K c 1 2 4 rfl rfl) ?_
  refine on2 A0 K c (fun _ => stage0 A0 K c 2 4 6 rfl rfl) ?_
  refine on0 A0 K c (fun _ => stage1 A0 K c 0 6 (by decide)) ?_
  refine on0 A0 K c (fun _ => stage2 A0 K c 0 6 8 rfl rfl) ?_
  refine on1 A0 K c (fun _ => stage1 A0 K c 1 8 (by decide)) ?_
  refine on1 A0 K c (fun _ => stage2 A0 K c 1 8 10 rfl rfl) ?_
  refine on2 A0 K c (fun _ => stage1 A0 K c 2 10 (by decide)) ?_
  refine on2 A0 K c (fun _ => stage2 A0 K c 2 10 12 rfl rfl) ?_
  refine on0 A0 K c (fun _ => stage3 A0 K c 0 12 (by decide)) ?_
  refine on0 A0 K c (fun _ => stage4 A0 K c 0 12 14 rfl rfl) ?_
  refine on1 A0 K c (fun _ => stage3 A0 K c 1 14 (by decide)) ?_
  refine on1 A0 K c (fun _ => stage4 A0 K c 1 14 16 rfl rfl) ?_
  refine on2 A0 K c (fun _ => stage3 A0 K c 2 16 (by decide)) ?_
  refine on2 A0 K c (fun _ => stage4 A0 K c 2 16 18 rfl rfl) ?_
  refine on0 A0 K c (fun _ => stage5 A0 K c 0 18 (by decide)) ?_
  refine on0 A0 K c (copies A0 K c 0 18) ?_
  refine on0 A0 K c (fun _ => stage7 A0 K c 0 18 19 rfl rfl) ?_
  refine on1 A0 K c (fun _ => stage5 A0 K c 1 19 (by decide)) ?_
  refine on1 A0 K c (copies A0 K c 1 19) ?_
  refine on1 A0 K c (fun _ => stage7 A0 K c 1 19 20 rfl rfl) ?_
  refine on2 A0 K c (fun _ => stage5 A0 K c 2 20 (by decide)) ?_
  refine on2 A0 K c (copies A0 K c 2 20) ?_
  refine on2 A0 K c (fun _ => stage7 A0 K c 2 20 21 rfl rfl) ?_
  refine on0 A0 K c (fun _ => stage8 A0 K c 0 21 (by decide)) ?_
  refine on0 A0 K c (fun _ => stage9 A0 K c 0 21 22 rfl rfl) ?_
  refine on1 A0 K c (fun _ => stage8 A0 K c 1 22 (by decide)) ?_
  refine on1 A0 K c (fun _ => stage9 A0 K c 1 22 23 rfl rfl) ?_
  refine on2 A0 K c (fun _ => stage8 A0 K c 2 23 (by decide)) ?_
  refine on2 A0 K c (fun _ => stage9 A0 K c 2 23 24 rfl rfl) ?_
  refine on0 A0 K c (fun _ => stage10 A0 K c 0 24 (by decide)) ?_
  refine on1 A0 K c (fun _ => stage10 A0 K c 1 24 (by decide)) ?_
  exact last A0 K c (fun _ => stage10 A0 K c 2 24 (by decide))

end

end Cert.Cube

end
-- ==== Proof.Product.lean ====
/- The local product: blocks of columns fetched, multiplied and summed, the sum rounded. -/
module

public import proofs.«01_k».proof.Proof.Cells
public import Idealize.ShloMosaic.Lib.Transfers
public import Idealize.ShloMosaic.Lib.ValueLayout
public import Idealize.ShloMosaic.Lib.Pipeline.Value

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Transfers Idealize.ShloMosaic.ValueIdx

/-- A device's argument, a block of it, and what the local product is. -/
abbrev Arg (F : FTy → Type) : Type := S1024x4096.Idx → F .f32
abbrev Blk (F : FTy → Type) : Type := S1024x1024.Idx → F .f32

abbrev crect (k : Fin 4) : Rect S1024x4096 := Rect.unit (s := S1024x4096) ![0, 1024 * k.val] S1024x1024.size (inb_col k)
def colv (k : Fin 4) (a : Arg F) : Blk F := fun x => a ((crect k).emb x)
/-- A block with the unit axis the staging buffer has. -/
def cube (Y : Blk F) : Vec F S1x1024x1024 .f32 := fun x => Y (ix2 (x 1) (x 2))

def sum0 (a b : Arg F) : Blk F := k0_pay2 (k0_pay1 (cube (colv 0 a))) (cube (colv 0 b))
def sum1 (a b : Arg F) : Blk F := k0_pay3 (cube (colv 1 a)) (cube (colv 1 b)) (sum0 a b)
def sum2 (a b : Arg F) : Blk F := k0_pay3 (cube (colv 2 a)) (cube (colv 2 b)) (sum1 a b)
def sum3 (a b : Arg F) : Blk F := k0_pay3 (cube (colv 3 a)) (cube (colv 3 b)) (sum2 a b)
def prod (a b : Arg F) : Arr F := k0_pay6 (sum3 a b)

/-! ## One transfer -/

section
variable {sp sp' : Space} (c : Dev nD) (src : Memref sig .tc sp S1024x1024 .f32) (dst : Memref sig .tc sp' S1024x1024 .f32) (q : DmaSem sig)

def flying (X : Blk F) : sProp 𝕄 :=
  Flight countersEmb (c : Thread nD τ) (.dma q) () dst.view.dmaCredit
    iprop(owns (c : Thread nD τ) dst fullShare X ∗ owns (c : Thread nD τ) src fullShare X)

/-- Devices still owe everything they will send. -/
def debt0 (c : Dev nD) : sProp 𝕄 := iprop(∃ W, owes (c : Thread nD τ) (O₀ c) W)

theorem fetch_one {α : Type} {Q : α → sProp 𝕄} {hsrc : src.view.WordExact} {hdst : dst.view.WordExact}
    {hsem : DmaTarget.Typed (nD := nD) sp (SemLoc.dma q) (DmaTarget.here (nD := nD) (p := (Proc.tc : Proc τ)) dst)} (X : Blk F)
    {k : PUnit → Prog (TpuEff nD τ sig (Elt F) Λ₀ .tc) α} :
    iprop(owns (c : Thread nD τ) src fullShare X ∗ (∃ Y : Blk F, owns (c : Thread nD τ) dst fullShare Y) ∗ semVal ((c : Thread nD τ), .dma q) 0)
      ⊢ iprop((flying c src dst q X -∗ WP (F := F) c (k ⟨⟩) Q)
        -∗ WP (F := F) c (.op (.enqueueDma src (.here dst) (.dma q) hsrc hdst hsem) k) Q) := by
  unfold flying owns
  iintro ⟨⟨%fs, %hs, Hs⟩, ⟨%Y, %fd, -, Hd⟩, Hv⟩ Hk
  iapply (wp_dmaLocal countersEmb 𝒱₀ (c : Thread nD τ) none (Sd := dst.view.set) (fd := fd) (fs := fs) () dst.view.dmaCredit rfl
    (View.dmaCredit_pos _ (by decide)) (Finset.Subset.refl _)) $$ [Hs Hd Hv]
  · isplitl [Hs]; · iexact Hs
    isplitl [Hd] <;> iassumption
  iintro Hf
  iapply Hk
  iapply (Flight_mono countersEmb (c : Thread nD τ) ?_) $$ Hf
  iintro ⟨Hd, Hs⟩
  isplitl [Hd]
  · iexists _
    isplitr; swap; · iexact Hd
    ipureintro
    rw [View.read_write_univ]; exact hs
  · iexists _
    isplitr; swap; · iexact Hs
    ipureintro; exact hs

theorem ready_one {α : Type} {Q : α → sProp 𝕄} {hsrc : src.view.WordExact} {hdst : dst.view.WordExact}
    (hq : lv ((c : Thread nD τ), .dma q) () = 0) (X : Blk F) {k : PUnit → Prog (TpuEff nD τ sig (Elt F) Λ₀ .tc) α} :
    iprop(levAts L lv ∗ flying c src dst q X ∗ debt0 c)
      ⊢ iprop(((owns (c : Thread nD τ) dst fullShare X ∗ owns (c : Thread nD τ) src fullShare X ∗ semVal ((c : Thread nD τ), .dma q) 0 ∗ debt0 c)
          -∗ WP (F := F) c (k ⟨⟩) Q)
        -∗ WP (F := F) c (.op (.waitDma2 q src dst hsrc hdst) k) Q) := by
  unfold flying debt0
  iintro ⟨#Hlev, Hf, %W, HO⟩ Hk
  iapply (wp_waitLocalO countersEmb 𝒱₀ (c : Thread nD τ) none () rfl) $$ [Hf HO]
  · isplitl [Hf]; · iexact Hf
    isplitl [HO]; · iexact HO
    iapply (mayWait_low c q hq (O₀ c) (Or.inl rfl)) $$ Hlev
  iintro ⟨⟨Hd, Hs⟩, Hv, HO⟩
  iapply Hk
  isplitl [Hd]; · iexact Hd
  isplitl [Hs]; · iexact Hs
  isplitl [Hv]; · iexact Hv
  iexists _; iexact HO

end

/-! ## A staging slot -/

theorem slot_of_owns (c : Dev nD) (n : Memref sig .tc .vmem S2x1024x1024 .f32) (j : Fin 2) (Y : Blk F) :
    owns (c : Thread nD τ) (slotB n j) fullShare Y ⊢ held c n (srectS j).set (fun i => Y (ix2 (i 1) (i 2))) := by
  unfold owns held
  iintro ⟨%f, %hf, H⟩
  iexists f
  isplitr
  · ipureintro
    intro x hx
    rw [← Rect.map_emb_univ] at hx
    obtain ⟨y, -, rfl⟩ := Finset.mem_map.mp hx
    have h1 := congrFun hf (ix2 (y 1) (y 2))
    rw [Memref.read_squeeze_slice n (srectS j) (fun _ => rfl) _ shapeCasts_S1x1024x1024_S1024x1024] at h1
    have h2 := shapeCast_1ab_ab_apply (n.view.readAt (Elt F) (srectS j).toLoadRect f) shapeCasts_S1x1024x1024_S1024x1024 (y 1) (y 2)
    have h3 : (ix3 (0 : Fin 1) (y 1) (y 2) : S1x1024x1024.Idx) = y := by
      funext a; fin_cases a
      · exact (Subsingleton.elim (α := Fin 1) _ _)
      · rfl
      · rfl
    have h4 : n.view.read (Elt F) f ((srectS j).emb y) = Y (ix2 (y 1) (y 2)) := by
      rw [← h1]
      refine Eq.trans ?_ h2.symm
      rw [h3]; rfl
    refine h4.trans (congrArg Y ?_)
    funext a; refine Fin.ext ?_
    fin_cases a <;> simp [Rect.emb_apply]
  · iapply (Entails.of_eq (congrArg (fun I => (n.view.loc (c : Thread nD τ) ↦[I]{fullShare} f : sProp 𝕄))
      (show (slotB n j).view.set = n.view.setOn (srectS j).set from (View.set_reshape _ _).trans (n.view.set_slice _))))
    iexact H

theorem owns_of_slot (c : Dev nD) (n : Memref sig .tc .vmem S2x1024x1024 .f32) (j : Fin 2) (g : S2x1024x1024.Idx → F .f32) :
    held c n (srectS j).set g ⊢ (iprop(∃ Y : Blk F, owns (c : Thread nD τ) (slotB n j) fullShare Y) : sProp 𝕄) := by
  unfold owns held
  iintro ⟨%f, -, H⟩
  iexists _, f
  isplitr; · ipureintro; rfl
  iapply (Entails.of_eq (congrArg (fun I => (n.view.loc (c : Thread nD τ) ↦[I]{fullShare} f : sProp 𝕄))
      (show n.view.setOn (srectS j).set = (slotB n j).view.set from ((View.set_reshape _ _).trans (n.view.set_slice _)).symm)))
  iexact H

/-! ## The steps of the product -/

section
variable (c : Dev nD) (a b : Arg F)

def cols (k : Fin 4) : sProp 𝕄 :=
  iprop(owns (c : Thread nD τ) (colB aM k) fullShare (colv k a) ∗ owns (c : Thread nD τ) (colB bM k) fullShare (colv k b))
def blank (j : Fin 2) : sProp 𝕄 :=
  iprop((∃ Y : Blk F, owns (c : Thread nD τ) (slotB aS j) fullShare Y) ∗ (∃ Y : Blk F, owns (c : Thread nD τ) (slotB bS j) fullShare Y))
def slots (j : Fin 2) (k : Fin 4) : sProp 𝕄 :=
  iprop(held c aS (srectS j).set (fun i => colv k a (ix2 (i 1) (i 2))) ∗ held c bS (srectS j).set (fun i => colv k b (ix2 (i 1) (i 2))))
def inSems (j : Fin 2) : sProp 𝕄 := iprop(semVal ((c : Thread nD τ), .dma (inS j 0)) 0 ∗ semVal ((c : Thread nD τ), .dma (inS j 1)) 0)
def moving (j : Fin 2) (k : Fin 4) : sProp 𝕄 :=
  iprop(flying c (colB aM k) (slotB aS j) (inS j 0) (colv k a) ∗ flying c (colB bM k) (slotB bS j) (inS j 1) (colv k b))

theorem blank_of_slots (j : Fin 2) (k : Fin 4) : slots c a b j k ⊢ blank (F := F) c j := by
  unfold slots blank
  exact BIClass.sep_mono (owns_of_slot c aS j _) (owns_of_slot c bS j _)

theorem lv_in (j t : Fin 2) : lv ((c : Thread nD τ), .dma (inS j t)) () = 0 := by
  fin_cases j <;> fin_cases t <;> rfl

theorem fetch_ok (j : Fin 2) (k : Fin 4) {Kt : PUnit → sProp 𝕄} :
    iprop(cols c a b k ∗ blank (F := F) c j ∗ inSems (F := F) c j) ⊢ iprop((moving c a b j k -∗ Kt ⟨⟩) -∗ WP (F := F) c (fetch j k) Kt) := by
  unfold cols blank inSems moving fetch
  simp only [Prog.lift, Prog.bind_op, Prog.bind_ret]
  iintro ⟨⟨Ha, Hb⟩, ⟨HA, HB⟩, Hv, Hw⟩ Hk
  iapply (fetch_one c (colB aM k) (slotB aS j) (inS j 0) (colv k a)) $$ [Ha HA Hv]
  · isplitl [Ha]; · iexact Ha
    isplitl [HA] <;> iassumption
  iintro H1
  iapply (fetch_one c (colB bM k) (slotB bS j) (inS j 1) (colv k b)) $$ [Hb HB Hw]
  · isplitl [Hb]; · iexact Hb
    isplitl [HB] <;> iassumption
  iintro H2
  unfold WP; rw [wp_ret]; imodintro
  iapply Hk
  isplitl [H1] <;> iassumption

theorem ready_ok (j : Fin 2) (k : Fin 4) {Kt : PUnit → sProp 𝕄} :
    iprop(levAts L lv ∗ moving c a b j k ∗ debt0 (F := F) c)
      ⊢ iprop(((cols c a b k ∗ slots c a b j k ∗ inSems (F := F) c j ∗ debt0 (F := F) c) -∗ Kt ⟨⟩) -∗ WP (F := F) c (ready j k) Kt) := by
  unfold cols slots inSems moving ready
  simp only [Prog.lift, Prog.bind_op, Prog.bind_ret]
  iintro ⟨#Hlev, ⟨H1, H2⟩, HO⟩ Hk
  iapply (ready_one c (colB aM k) (slotB aS j) (inS j 0) (lv_in c j 0) (colv k a)) $$ [H1 HO]
  · isplitr; · iexact Hlev
    isplitl [H1] <;> iassumption
  iintro ⟨HA, Ha, Hv, HO⟩
  iapply (ready_one c (colB bM k) (slotB bS j) (inS j 1) (lv_in c j 1) (colv k b)) $$ [H2 HO]
  · isplitr; · iexact Hlev
    isplitl [H2] <;> iassumption
  iintro ⟨HB, Hb, Hw, HO⟩
  unfold WP; rw [wp_ret]; imodintro
  ihave HA := (slot_of_owns c aS j (colv k a)) $$ HA
  ihave HB := (slot_of_owns c bS j (colv k b)) $$ HB
  iapply Hk
  isplitl [Ha Hb]; · isplitl [Ha] <;> iassumption
  isplitl [HA HB]; · isplitl [HA] <;> iassumption
  isplitl [Hv Hw]; · isplitl [Hv] <;> iassumption
  iexact HO

theorem rall_emb (x : S1024x1024.Idx) : rall.emb x = x := by
  funext a; refine Fin.ext ?_
  rw [Rect.emb_apply]
  fin_cases a <;> simp
theorem slot_emb (j : Fin 2) (x : S1x1024x1024.Idx) (Y : Blk F) :
    Y (ix2 (((srectS j).emb x) 1) (((srectS j).emb x) 2)) = cube Y x := by
  refine congrArg Y ?_
  funext a; refine Fin.ext ?_
  fin_cases a <;> simp [Rect.emb_apply]

/-- A load of a staging slot reads the block in it. -/
theorem load_slot {α : Type} {Q : α → sProp 𝕄} (n : Memref sig .tc .vmem S2x1024x1024 .f32) (j : Fin 2) (Y : Blk F)
    {hl : n.view.LoadsAt (srectS j).toLoadRect} {k : Vec F S1x1024x1024 .f32 → Prog (TpuEff nD τ sig (Elt F) Λ₀ .tc) α} :
    held c n (srectS j).set (fun i => Y (ix2 (i 1) (i 2)))
      ⊢ iprop((held c n (srectS j).set (fun i => Y (ix2 (i 1) (i 2))) -∗ WP (F := F) c (k (cube Y)) Q)
        -∗ WP (F := F) c (.op (.load n (srectS j).toLoadRect hl) k) Q) := by
  have e := load_held (F := F) c n (Q := Q) (hl := hl) (k := k) (g := fun i => Y (ix2 (i 1) (i 2))) (Finset.Subset.refl (srectS j).set)
  rw [show (fun x => (fun i : S2x1024x1024.Idx => Y (ix2 (i 1) (i 2))) ((srectS j).emb x)) = cube Y from funext fun x => slot_emb j x Y] at e
  exact e

/-- A load of a whole array reads it; a store to it replaces it. -/
theorem load_all {e : EltTy} {α : Type} {Q : α → sProp 𝕄} (n : Memref sig .tc .vmem S1024x1024 e) (g : S1024x1024.Idx → Elt F e)
    {hl : n.view.LoadsAt rall.toLoadRect} {k : (S1024x1024.Idx → Elt F e) → Prog (TpuEff nD τ sig (Elt F) Λ₀ .tc) α} :
    held c n Finset.univ g ⊢ iprop((held c n Finset.univ g -∗ WP (F := F) c (k g) Q) -∗ WP (F := F) c (.op (.load n rall.toLoadRect hl) k) Q) := by
  have e := load_held (F := F) c n (Q := Q) (hl := hl) (k := k) (g := g) (Finset.subset_univ rall.set)
  rw [show (fun x => g (rall.emb x)) = g from funext fun x => congrArg g (rall_emb x)] at e
  exact e
theorem store_all {e : EltTy} {α : Type} {Q : α → sProp 𝕄} (n : Memref sig .tc .vmem S1024x1024 e) (g w : S1024x1024.Idx → Elt F e)
    {hx : (n.access rall).Stores Finset.univ} {hm : (Finset.univ : Finset S1024x1024.Idx) = Finset.univ ∨ ∀ a, rall.stride a = 1}
    {k : PUnit → Prog (TpuEff nD τ sig (Elt F) Λ₀ .tc) α} :
    held c n Finset.univ g ⊢ iprop((held c n Finset.univ w -∗ WP (F := F) c (k ⟨⟩) Q) -∗ WP (F := F) c (.op (.store n rall w Finset.univ hx hm) k) Q) :=
  store_held (F := F) c n (Finset.subset_univ rall.set) (fun x => congrArg w (rall_emb x).symm)
    (fun y _ hy => absurd (by rw [← Rect.map_emb_univ]; exact Finset.mem_map.mpr ⟨y, Finset.mem_univ _, rall_emb y⟩) hy)

def someSum : sProp 𝕄 := iprop(∃ u : Blk F, held c sumM Finset.univ u)
def someAcc : sProp 𝕄 := iprop(∃ u : Arr F, held c accM Finset.univ u)

theorem first_ok {Kt : PUnit → sProp 𝕄} :
    iprop(slots c a b 0 0 ∗ someSum (F := F) c)
      ⊢ iprop(((slots c a b 0 0 ∗ held c sumM Finset.univ (sum0 a b)) -∗ Kt ⟨⟩) -∗ WP (F := F) c first Kt) := by
  unfold slots someSum first
  simp only [Prog.lift, Prog.bind_op, Prog.bind_ret]
  iintro ⟨⟨HA, HB⟩, %u, Hs⟩ Hk
  iapply (load_slot c aS 0 (colv 0 a)) $$ HA
  iintro HA
  iapply (load_slot c bS 0 (colv 0 b)) $$ HB
  iintro HB
  iapply (load_all c sumM u) $$ Hs
  iintro Hs
  iapply (store_all c sumM u (sum0 a b)) $$ Hs
  iintro Hs
  unfold WP; rw [wp_ret]; imodintro
  iapply Hk
  isplitl [HA HB]; · isplitl [HA] <;> iassumption
  iexact Hs

theorem more_ok (j : Fin 2) (k : Fin 4) (S : Blk F) {Kt : PUnit → sProp 𝕄} :
    iprop(slots c a b j k ∗ held c sumM Finset.univ S)
      ⊢ iprop(((slots c a b j k ∗ held c sumM Finset.univ (k0_pay3 (cube (colv k a)) (cube (colv k b)) S : Blk F)) -∗ Kt ⟨⟩) -∗ WP (F := F) c (more j) Kt) := by
  unfold slots more
  simp only [Prog.lift, Prog.bind_op, Prog.bind_ret]
  iintro ⟨⟨HA, HB⟩, Hs⟩ Hk
  iapply (load_slot c aS j (colv k a)) $$ HA
  iintro HA
  iapply (load_slot c bS j (colv k b)) $$ HB
  iintro HB
  iapply (load_all c sumM S) $$ Hs
  iintro Hs
  iapply (load_all c sumM S) $$ Hs
  iintro Hs
  iapply (store_all c sumM S (k0_pay3 (cube (colv k a)) (cube (colv k b)) S)) $$ Hs
  iintro Hs
  unfold WP; rw [wp_ret]; imodintro
  iapply Hk
  isplitl [HA HB]; · isplitl [HA] <;> iassumption
  iexact Hs

theorem round_ok (S : Blk F) {Kt : PUnit → sProp 𝕄} :
    iprop(held c sumM Finset.univ S ∗ someAcc (F := F) c)
      ⊢ iprop(((someSum (F := F) c ∗ held c accM Finset.univ (k0_pay6 S : Arr F)) -∗ Kt ⟨⟩) -∗ WP (F := F) c round Kt) := by
  unfold someSum someAcc round
  simp only [Prog.lift, Prog.bind_op, Prog.bind_ret]
  iintro ⟨Hs, %u, Ha⟩ Hk
  iapply (load_all c sumM S) $$ Hs
  iintro Hs
  iapply (load_all c accM u) $$ Ha
  iintro Ha
  iapply (store_all c accM u (k0_pay6 S)) $$ Ha
  iintro Ha
  unfold WP; rw [wp_ret]; imodintro
  iapply Hk
  isplitl [Hs]; · iexists _; iexact Hs
  iexact Ha

/-- What the product works on, and gives back. -/
def bench : sProp 𝕄 :=
  iprop((cols c a b 0 ∗ cols c a b 1 ∗ cols c a b 2 ∗ cols c a b 3) ∗ (blank (F := F) c 0 ∗ blank (F := F) c 1)
    ∗ (inSems (F := F) c 0 ∗ inSems (F := F) c 1) ∗ someSum (F := F) c ∗ debt0 (F := F) c)

theorem product_ok {Kt : PUnit → sProp 𝕄} :
    iprop(levAts L lv ∗ bench c a b ∗ someAcc (F := F) c)
      ⊢ iprop(((bench c a b ∗ held c accM Finset.univ (prod a b)) -∗ Kt ⟨⟩) -∗ WP (F := F) c product Kt) := by
  unfold bench product WP
  simp only [wp_bind]
  iintro ⟨#Hlev, ⟨⟨H0, H1, H2, H3⟩, ⟨HA, HB⟩, ⟨Hv, Hw⟩, Hs, HO⟩, Hacc⟩ Hk
  iapply (fetch_ok c a b 0 0) $$ [H0 HA Hv]
  · isplitl [H0]; · iexact H0
    isplitl [HA] <;> iassumption
  iintro HA
  iapply (fetch_ok c a b 1 1) $$ [H1 HB Hw]
  · isplitl [H1]; · iexact H1
    isplitl [HB] <;> iassumption
  iintro HB
  iapply (ready_ok c a b 0 0) $$ [HA HO]
  · isplitr; · iexact Hlev
    isplitl [HA] <;> iassumption
  iintro ⟨H0, HA, Hv, HO⟩
  iapply (first_ok c a b) $$ [HA Hs]
  · isplitl [HA] <;> iassumption
  iintro ⟨HA, Hs⟩
  ihave HA := (blank_of_slots c a b 0 0) $$ HA
  iapply (fetch_ok c a b 0 2) $$ [H2 HA Hv]
  · isplitl [H2]; · iexact H2
    isplitl [HA] <;> iassumption
  iintro HA
  iapply (ready_ok c a b 1 1) $$ [HB HO]
  · isplitr; · iexact Hlev
    isplitl [HB] <;> iassumption
  iintro ⟨H1, HB, Hw, HO⟩
  iapply (more_ok c a b 1 1 (sum0 a b)) $$ [HB Hs]
  · isplitl [HB] <;> iassumption
  iintro ⟨HB, Hs⟩
  ihave HB := (blank_of_slots c a b 1 1) $$ HB
  iapply (fetch_ok c a b 1 3) $$ [H3 HB Hw]
  · isplitl [H3]; · iexact H3
    isplitl [HB] <;> iassumption
  iintro HB
  iapply (ready_ok c a b 0 2) $$ [HA HO]
  · isplitr; · iexact Hlev
    isplitl [HA] <;> iassumption
  iintro ⟨H2, HA, Hv, HO⟩
  iapply (more_ok c a b 0 2 (sum1 a b)) $$ [HA Hs]
  · isplitl [HA]; · iexact HA
    unfold sum1; iexact Hs
  iintro ⟨HA, Hs⟩
  iapply (ready_ok c a b 1 3) $$ [HB HO]
  · isplitr; · iexact Hlev
    isplitl [HB] <;> iassumption
  iintro ⟨H3, HB, Hw, HO⟩
  iapply (more_ok c a b 1 3 (sum2 a b)) $$ [HB Hs]
  · isplitl [HB]; · iexact HB
    unfold sum2; iexact Hs
  iintro ⟨HB, Hs⟩
  iapply (round_ok c (sum3 a b)) $$ [Hs Hacc]
  · isplitl [Hs]
    · unfold sum3; iexact Hs
    iexact Hacc
  iintro ⟨Hs, Hacc⟩
  ihave HA := (blank_of_slots c a b 0 2) $$ HA
  ihave HB := (blank_of_slots c a b 1 3) $$ HB
  iapply Hk
  isplitr [Hacc]
  · isplitl [H0 H1 H2 H3]
    · isplitl [H0]; · iexact H0
      isplitl [H1]; · iexact H1
      isplitl [H2] <;> iassumption
    isplitl [HA HB]; · isplitl [HA] <;> iassumption
    isplitl [Hv Hw]; · isplitl [Hv] <;> iassumption
    isplitl [Hs] <;> iassumption
  unfold prod; iexact Hacc

end

end Cert.Cube

end
-- ==== Proof.Body.lean ====
/- A device's whole run, from what it starts with to what it ends with. -/
module

public import proofs.«01_k».proof.Proof.Barrier
public import proofs.«01_k».proof.Proof.Exchange
public import proofs.«01_k».proof.Proof.Product

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A0 : Dev nD → Arr F) (K : Dev nD × CI → ℕ) (c : Dev nD) (a b : Arg F)

/-- The slab a column lies in. -/
def slabOf (i : S1024x1024.Idx) : Fin 3 := if (i 1).val < 384 then 0 else if (i 1).val < 768 then 1 else 2
/-- The result a device ends with. -/
def OUT : Arr F := fun i => gath A0 c (slabOf i) i

theorem slabOf_reg (s : Fin 3) (i : S1024x1024.Idx) (h : i ∈ reg 0 1024 s) : slabOf i = s := by
  have h1 := (mem_reg.mp h).2
  unfold slabOf
  fin_cases s
  · have h2 : (i 1).val < 0 + 384 := h1.2
    rw [if_pos (by omega)]; rfl
  · have h2 : 384 ≤ (i 1).val ∧ (i 1).val < 384 + 384 := h1
    rw [if_neg (by omega), if_pos (by omega)]; rfl
  · have h2 : 768 ≤ (i 1).val := h1.1
    rw [if_neg (by omega), if_neg (by omega)]; rfl

theorem out_slab (s : Fin 3) : held c outM (reg 0 1024 s) (gath A0 c s) ⊢ held c outM (reg 0 1024 s) (OUT A0 c) :=
  held_congr c outM fun i hi => by unfold OUT; rw [slabOf_reg s i hi]

theorem out_join : iprop(held c outM (reg 0 1024 0) (gath A0 c 0) ∗ held c outM (reg 0 1024 1) (gath A0 c 1) ∗ held c outM (reg 0 1024 2) (gath A0 c 2))
    ⊢ held c outM Finset.univ (OUT A0 c) :=
  (BIClass.sep_mono (out_slab A0 c 0) (BIClass.sep_mono (out_slab A0 c 1) (out_slab A0 c 2))).trans (whole_join c outM (OUT A0 c))

theorem acc_join : iprop(some' (F := F) c 0 accM 0 1024 ∗ some' (F := F) c 1 accM 0 1024 ∗ some' (F := F) c 2 accM 0 1024) ⊢ someAcc (F := F) c := by
  unfold some' someAcc
  exact (sep_mono_right (some_join c accM rfl slabs_disj')).trans (some_join c accM slabs_union slabs_disj)

/-- Transfer by transfer is slab by slab. -/
theorem by_slab (Θ : Fin 3 → Fin 8 → sProp 𝕄) : (bigSep Finset.univ fun sk : Fin 3 × Fin 8 => Θ sk.1 sk.2)
    = iprop((bigSep Finset.univ fun k => Θ 0 k) ∗ (bigSep Finset.univ fun k => Θ 1 k) ∗ (bigSep Finset.univ fun k => Θ 2 k)) := by
  rw [bigSep_univ_prod, three]

/-- What stays as it is on both sides: the arguments, the staging slots, their semaphores, the sum. -/
def desk : sProp 𝕄 :=
  iprop((cols c a b 0 ∗ cols c a b 1 ∗ cols c a b 2 ∗ cols c a b 3) ∗ (blank (F := F) c 0 ∗ blank (F := F) c 1)
    ∗ (inSems (F := F) c 0 ∗ inSems (F := F) c 1) ∗ someSum (F := F) c)
/-- What the device may do, and has seen, at the start. -/
def rights : sProp 𝕄 :=
  iprop((bigSep Finset.univ fun x : Fin 3 => dutyTok ER (barCell (nb c x)) 0 x) ∗ (bigSep Finset.univ fun sk : Fin 3 × Fin 8 => tok (F := F) c sk.1 sk.2)
    ∗ (bigSep Finset.univ fun s : Fin 3 => lefts (F := F) c s 0 0) ∗ cred (tallyAt (barCell c) () 3) ∗ atPos ER (barCell c) 0 ∅ 0
    ∗ (bigSep Finset.univ fun sk : Fin 3 × Fin 8 => todo (F := F) c sk.1 sk.2))
/-- And at the end. -/
def seen : sProp 𝕄 :=
  iprop(atPos ER (barCell c) 1 ∅ 0 ∗ (bigSep Finset.univ fun sk : Fin 3 × Fin 8 => came (F := F) c sk.1 sk.2)
    ∗ (bigSep Finset.univ fun s : Fin 3 => lefts (F := F) c s 5 3))
/-- The exchange's buffers. -/
def store : sProp 𝕄 := iprop(someAcc (F := F) c ∗ (bigSep Finset.univ fun s : Fin 3 => bufs (F := F) c s))
def someOut : sProp 𝕄 := iprop(∃ u : Arr F, held c outM Finset.univ u)

/-- All that is lent, and what is kept of the result's rows. -/
theorem lend_all : iprop((bigSep Finset.univ fun s : Fin 3 => bufs (F := F) c s) ∗ someOut (F := F) c)
    ⊢ iprop((bigSep Finset.univ fun x : Fin 3 => barPay (F := F) (nb c x) x)
      ∗ some' (F := F) c 0 outM (m2 c 0) 256 ∗ some' (F := F) c 1 outM (m2 c 1) 256 ∗ some' (F := F) c 2 outM (m2 c 2) 256) := by
  rw [← give, by_slab (fun s k => back (F := F) c s k), three]
  unfold someOut
  iintro ⟨⟨B0, B1, B2⟩, %u, Ho⟩
  ihave Ho := (whole_split c outM u) $$ Ho
  icases Ho with ⟨O0, O1, O2⟩
  ihave H0 := (lend c 0 u) $$ [B0 O0]
  · isplitl [B0] <;> iassumption
  ihave H1 := (lend c 1 u) $$ [B1 O1]
  · isplitl [B1] <;> iassumption
  ihave H2 := (lend c 2 u) $$ [B2 O2]
  · isplitl [B2] <;> iassumption
  icases H0 with ⟨B0, O0⟩
  icases H1 with ⟨B1, O1⟩
  icases H2 with ⟨B2, O2⟩
  isplitl [B0 B1 B2]
  · isplitl [B0]; · iexact B0
    isplitl [B1] <;> iassumption
  isplitl [O0]; · iexact O0
  isplitl [O1] <;> iassumption

/-- The slabs' first stages. -/
theorem slabs_in : iprop((bigSep Finset.univ fun sk : Fin 3 × Fin 8 => tok (F := F) c sk.1 sk.2) ∗ (bigSep Finset.univ fun x : Fin 3 => barPay (F := F) c x)
      ∗ (bigSep Finset.univ fun sk : Fin 3 × Fin 8 => todo (F := F) c sk.1 sk.2) ∗ (bigSep Finset.univ fun s : Fin 3 => lefts (F := F) c s 0 0)
      ∗ (some' (F := F) c 0 outM (m2 c 0) 256 ∗ some' (F := F) c 1 outM (m2 c 1) 256 ∗ some' (F := F) c 2 outM (m2 c 2) 256)
      ∗ held c accM Finset.univ (A0 c))
    ⊢ iprop(stage A0 c 0 0 ∗ stage A0 c 1 0 ∗ stage A0 c 2 0) := by
  rw [take, by_slab (fun s k => tok (F := F) c s k), by_slab (fun s k => land (F := F) c s k), by_slab (fun s k => todo (F := F) c s k), three]
  iintro ⟨⟨K0, K1, K2⟩, ⟨L0, L1, L2⟩, ⟨T0, T1, T2⟩, ⟨E0, E1, E2⟩, ⟨O0, O1, O2⟩, HA⟩
  ihave HA := (whole_split c accM (A0 c)) $$ HA
  icases HA with ⟨A0', A1', A2'⟩
  isplitl [K0 L0 T0 E0 O0 A0']
  · iapply (slab_in c 0 A0)
    isplitl [K0]; · iexact K0
    isplitl [L0]; · iexact L0
    isplitl [T0]; · iexact T0
    isplitl [E0]; · iexact E0
    isplitl [O0]; · iexact O0
    iexact A0'
  isplitl [K1 L1 T1 E1 O1 A1']
  · iapply (slab_in c 1 A0)
    isplitl [K1]; · iexact K1
    isplitl [L1]; · iexact L1
    isplitl [T1]; · iexact T1
    isplitl [E1]; · iexact E1
    isplitl [O1]; · iexact O1
    iexact A1'
  · iapply (slab_in c 2 A0)
    isplitl [K2]; · iexact K2
    isplitl [L2]; · iexact L2
    isplitl [T2]; · iexact T2
    isplitl [E2]; · iexact E2
    isplitl [O2]; · iexact O2
    iexact A2'

/-- The slabs' last stages. -/
theorem slabs_out : iprop(stage A0 c 0 11 ∗ stage A0 c 1 11 ∗ stage A0 c 2 11)
    ⊢ iprop(held c outM Finset.univ (OUT A0 c) ∗ store (F := F) c ∗ (bigSep Finset.univ fun sk : Fin 3 × Fin 8 => came (F := F) c sk.1 sk.2)
      ∗ (bigSep Finset.univ fun s : Fin 3 => lefts (F := F) c s 5 3)) := by
  unfold store
  rw [by_slab (fun s k => came (F := F) c s k), three, three]
  iintro ⟨H0, H1, H2⟩
  ihave H0 := (slab_out c 0 A0) $$ H0
  ihave H1 := (slab_out c 1 A0) $$ H1
  ihave H2 := (slab_out c 2 A0) $$ H2
  icases H0 with ⟨O0, A0', B0, C0, L0⟩
  icases H1 with ⟨O1, A1', B1, C1, L1⟩
  icases H2 with ⟨O2, A2', B2, C2, L2⟩
  ihave HO := (out_join A0 c) $$ [O0 O1 O2]
  · isplitl [O0]; · iexact O0
    isplitl [O1] <;> iassumption
  ihave HA := (acc_join (F := F) c) $$ [A0' A1' A2']
  · isplitl [A0']; · iexact A0'
    isplitl [A1'] <;> iassumption
  isplitl [HO]; · iexact HO
  isplitl [HA B0 B1 B2]
  · isplitl [HA]; · iexact HA
    isplitl [B0]; · iexact B0
    isplitl [B1] <;> iassumption
  isplitl [C0 C1 C2]
  · isplitl [C0]; · iexact C0
    isplitl [C1] <;> iassumption
  isplitl [L0]; · iexact L0
  isplitl [L1] <;> iassumption

theorem body_ok (hA : A0 c = prod a b) {Kt : PUnit → sProp 𝕄} :
    iprop(ctx A0 K ∗ desk c a b ∗ debt0 (F := F) c ∗ store (F := F) c ∗ someOut (F := F) c ∗ rights (F := F) c)
      ⊢ iprop(((desk c a b ∗ debt (F := F) c 24 ∗ store (F := F) c ∗ held c outM Finset.univ (OUT A0 c) ∗ seen (F := F) c) -∗ Kt ⟨⟩)
          -∗ WP (F := F) c steps Kt) := by
  unfold steps WP
  simp only [Prog.lift, Prog.bind_op, Prog.bind_ret, wp_deviceId, wp_bind]
  have hp := product_ok c a b (Kt := fun _ => WP (F := F) c (barrier c) fun _ => WP (F := F) c (exchange c) Kt)
  have hb := barrier_ok A0 K c (Kt := fun _ => WP (F := F) c (exchange c) Kt)
  have he := exchange_ok A0 K c Kt
  unfold bench debt0 at hp
  unfold desk debt0 seen rights
  iintro ⟨#Hctx, ⟨D1, D2, D3, D4⟩, HO, Hst, Hout, Htb, Htk, Hle, Hcr, Hat, Htd⟩ Hk
  ihave #Hlev := (ctx_lev A0 K) $$ Hctx
  unfold store
  icases Hst with ⟨Hacc, Hbufs⟩
  iapply hp $$ [D1 D2 D3 D4 HO Hacc]
  · isplitr; · iexact Hlev
    isplitr [Hacc]
    · isplitl [D1]; · iexact D1
      isplitl [D2]; · iexact D2
      isplitl [D3]; · iexact D3
      isplitl [D4] <;> iassumption
    iexact Hacc
  iintro ⟨⟨D1, D2, D3, D4, HO⟩, Hacc⟩
  ihave Hl := (lend_all (F := F) c) $$ [Hbufs Hout]
  · isplitl [Hbufs] <;> iassumption
  icases Hl with ⟨Hpay, Hrows⟩
  iapply hb $$ [Htb Hpay Hcr Hat HO]
  · isplitr; · iexact Hctx
    isplitl [Htb]; · iexact Htb
    isplitl [Hpay]; · iexact Hpay
    isplitl [Hcr]; · iexact Hcr
    isplitl [Hat] <;> iassumption
  iintro ⟨Hat, Hpay, HO⟩
  ihave Hs := (slabs_in A0 c) $$ [Htk Hpay Htd Hle Hrows Hacc]
  · isplitl [Htk]; · iexact Htk
    isplitl [Hpay]; · iexact Hpay
    isplitl [Htd]; · iexact Htd
    isplitl [Hle]; · iexact Hle
    isplitl [Hrows]; · iexact Hrows
    rw [hA]; iexact Hacc
  iapply he $$ [Hs HO]
  · isplitr; · iexact Hctx
    isplitl [Hs] <;> iassumption
  iintro ⟨Hs, HO⟩
  ihave Hs := (slabs_out A0 c) $$ Hs
  icases Hs with ⟨Hout, Hst, Hcame, Hle⟩
  unfold store
  iapply Hk
  isplitl [D1 D2 D3 D4]
  · isplitl [D1]; · iexact D1
    isplitl [D2]; · iexact D2
    isplitl [D3] <;> iassumption
  isplitl [HO]; · iexact HO
  isplitl [Hst]; · iexact Hst
  isplitl [Hout]; · iexact Hout
  isplitl [Hat]; · iexact Hat
  isplitl [Hcame] <;> iassumption

end

end Cert.Cube

end
-- ==== Proof.Room.lean ====
/- A device's memory as what its run works on, and back. -/
module

public import proofs.«01_k».proof.Proof.Body
public import proofs.«01_k».proof.Proof.Gen.KernelIdeal.Launch

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (c : Dev nD)

/-- A buffer held whole. -/
theorem whole_held (b : Ref sig .tc) (f : b.ty.Contents (Elt F)) :
    (held c (Memref.whole b) Finset.univ f : sProp 𝕄) = (((c : Thread nD τ).loc b) ↦{fullShare} f) := by
  rw [held_univ, owns_whole]
theorem some_whole (b : Ref sig .tc) : (iprop(∃ f : Buf (Elt F) ((c : Thread nD τ).loc b), ((c : Thread nD τ).loc b) ↦{fullShare} f) : sProp 𝕄)
    = iprop(∃ f : b.ty.Contents (Elt F), held c (Memref.whole b) Finset.univ f) :=
  congrArg (fun P : b.ty.Contents (Elt F) → sProp 𝕄 => iprop(∃ f, P f)) (funext fun f => (whole_held c b f).symm)

/-! ## The staging slots -/

theorem mem_slot (j : Fin 2) (i : S2x1024x1024.Idx) : i ∈ (srectS j).set ↔ (i 0).val = j.val := by
  have h1 : (i 1).val < 1024 := (i 1).isLt
  have h2 : (i 2).val < 1024 := (i 2).isLt
  rw [Rect.mem_set_unit, Fin.forall_fin_succ, Fin.forall_fin_two]
  change (j.val ≤ (i 0).val ∧ (i 0).val < j.val + 1) ∧ (0 ≤ (i 1).val ∧ (i 1).val < 0 + 1024) ∧ (0 ≤ (i 2).val ∧ (i 2).val < 0 + 1024) ↔ _
  omega
theorem slots_union : (Finset.univ : Finset S2x1024x1024.Idx) = (srectS 0).set ∪ (srectS 1).set := by
  ext i
  have h0 : (i 0).val < 2 := (i 0).isLt
  rw [Finset.mem_union, mem_slot, mem_slot]
  simp only [Finset.mem_univ, Fin.val_zero, Fin.val_one, true_iff]
  omega
theorem slots_disj : Disjoint (srectS 0).set (srectS 1).set := by
  rw [Finset.disjoint_left]; intro i h h'
  rw [mem_slot] at h h'
  simp only [Fin.val_zero, Fin.val_one] at h h'
  omega

/-- A staging buffer is its two slots, at any contents. -/
theorem slots_split (n : Memref sig .tc .vmem S2x1024x1024 .f32) (g : S2x1024x1024.Idx → F .f32) : held c n Finset.univ g
    ⊢ (iprop((∃ Y : Blk F, owns (c : Thread nD τ) (slotB n 0) fullShare Y) ∗ (∃ Y : Blk F, owns (c : Thread nD τ) (slotB n 1) fullShare Y)) : sProp 𝕄) :=
  (held_split c n slots_union slots_disj g).trans (BIClass.sep_mono (owns_of_slot c n 0 g) (owns_of_slot c n 1 g))
theorem some_slot (n : Memref sig .tc .vmem S2x1024x1024 .f32) (j : Fin 2) : iprop(∃ Y : Blk F, owns (c : Thread nD τ) (slotB n j) fullShare Y)
    ⊢ (iprop(∃ g : S2x1024x1024.Idx → Elt F .f32, held c n (srectS j).set g) : sProp 𝕄) := by
  iintro ⟨%Y, H⟩
  iexists _
  iapply (slot_of_owns c n j Y) $$ H
theorem slots_join (n : Memref sig .tc .vmem S2x1024x1024 .f32) :
    iprop((∃ Y : Blk F, owns (c : Thread nD τ) (slotB n 0) fullShare Y) ∗ (∃ Y : Blk F, owns (c : Thread nD τ) (slotB n 1) fullShare Y))
      ⊢ (iprop(∃ g : S2x1024x1024.Idx → Elt F .f32, held c n Finset.univ g) : sProp 𝕄) :=
  (BIClass.sep_mono (some_slot c n 0) (some_slot c n 1)).trans (some_join c n slots_union slots_disj)

/-! ## The arguments -/

theorem mem_col (k : Fin 4) (i : S1024x4096.Idx) : i ∈ (crect k).set ↔ 1024 * k.val ≤ (i 1).val ∧ (i 1).val < 1024 * k.val + 1024 := by
  have h0 : (i 0).val < 1024 := (i 0).isLt
  rw [Rect.mem_set_unit, Fin.forall_fin_two]
  change (0 ≤ (i 0).val ∧ (i 0).val < 0 + 1024) ∧ (1024 * k.val ≤ (i 1).val ∧ (i 1).val < 1024 * k.val + 1024) ↔ _
  omega
theorem cols_union : (Finset.univ : Finset S1024x4096.Idx) = (crect 0).set ∪ ((crect 1).set ∪ ((crect 2).set ∪ (crect 3).set)) := by
  ext i
  have h1 : (i 1).val < 4096 := (i 1).isLt
  rw [Finset.mem_union, Finset.mem_union, Finset.mem_union, mem_col, mem_col, mem_col, mem_col]
  simp only [Finset.mem_univ, true_iff, Fin.val_zero, Fin.val_one, Fin.val_two, show (3 : Fin 4).val = 3 from rfl]
  omega
theorem cols_disj : Disjoint (crect 0).set ((crect 1).set ∪ ((crect 2).set ∪ (crect 3).set)) := by
  rw [Finset.disjoint_left]; intro i h h'
  rw [Finset.mem_union, Finset.mem_union, mem_col, mem_col, mem_col] at h'
  rw [mem_col] at h
  simp only [Fin.val_zero, Fin.val_one, Fin.val_two, show (3 : Fin 4).val = 3 from rfl] at h h'
  omega
theorem cols_disj' : Disjoint (crect 1).set ((crect 2).set ∪ (crect 3).set) := by
  rw [Finset.disjoint_left]; intro i h h'
  rw [Finset.mem_union, mem_col, mem_col] at h'
  rw [mem_col] at h
  simp only [Fin.val_one, Fin.val_two, show (3 : Fin 4).val = 3 from rfl] at h h'
  omega
theorem cols_disj'' : Disjoint (crect 2).set (crect 3).set := by
  rw [Finset.disjoint_left]; intro i h h'
  rw [mem_col] at h h'
  simp only [Fin.val_two, show (3 : Fin 4).val = 3 from rfl] at h h'
  omega

section
variable (M : Memref sig .tc .hbm S1024x4096 .f32) (a : Arg F)

def colOwn (k : Fin 4) : sProp 𝕄 := owns (c : Thread nD τ) (colB M k) fullShare (colv k a)
theorem col_own (k : Fin 4) : held c M (crect k).set a ⊢ colOwn c M a k := owns_of_held c M (crect k) (fun _ => rfl) a
theorem own_col (k : Fin 4) : colOwn c M a k ⊢ held c M (crect k).set a := held_of_owns c M (crect k) (fun _ => rfl) a

theorem arg_split : held c M Finset.univ a ⊢ iprop(colOwn c M a 0 ∗ colOwn c M a 1 ∗ colOwn c M a 2 ∗ colOwn c M a 3) :=
  ((held_split c M cols_union cols_disj a).trans (sep_mono_right ((held_split c M rfl cols_disj' a).trans (sep_mono_right (held_split c M rfl cols_disj'' a))))).trans
    (BIClass.sep_mono (col_own c M a 0) (BIClass.sep_mono (col_own c M a 1) (BIClass.sep_mono (col_own c M a 2) (col_own c M a 3))))
theorem arg_join : iprop(colOwn c M a 0 ∗ colOwn c M a 1 ∗ colOwn c M a 2 ∗ colOwn c M a 3) ⊢ held c M Finset.univ a :=
  (BIClass.sep_mono (own_col c M a 0) (BIClass.sep_mono (own_col c M a 1) (BIClass.sep_mono (own_col c M a 2) (own_col c M a 3)))).trans
    ((sep_mono_right ((sep_mono_right (held_join c M rfl cols_disj'' a)).trans (held_join c M rfl cols_disj' a))).trans (held_join c M cols_union cols_disj a))
end

/-! ## The whole desk -/

section
variable (a b : Arg F)

/-- The arguments in memory. -/
def args : sProp 𝕄 := iprop((((c : Thread nD τ).loc main_arg0) ↦{fullShare} a) ∗ (((c : Thread nD τ).loc main_arg1) ↦{fullShare} b))
/-- The scratch buffers. -/
def room : sProp 𝕄 := iprop(someSum (F := F) c ∗ (blank (F := F) c 0 ∗ blank (F := F) c 1) ∗ store (F := F) c)

theorem args_in : args c a b ⊢ iprop(cols c a b 0 ∗ cols c a b 1 ∗ cols c a b 2 ∗ cols c a b 3) := by
  have ha : ((((c : Thread nD τ).loc main_arg0) ↦{fullShare} a) : sProp 𝕄) ⊢ iprop(colOwn c aM a 0 ∗ colOwn c aM a 1 ∗ colOwn c aM a 2 ∗ colOwn c aM a 3) :=
    (Entails.of_eq (whole_held c main_arg0 a).symm).trans (arg_split c aM a)
  have hb : ((((c : Thread nD τ).loc main_arg1) ↦{fullShare} b) : sProp 𝕄) ⊢ iprop(colOwn c bM b 0 ∗ colOwn c bM b 1 ∗ colOwn c bM b 2 ∗ colOwn c bM b 3) :=
    (Entails.of_eq (whole_held c main_arg1 b).symm).trans (arg_split c bM b)
  have hc (k : Fin 4) : iprop(colOwn c aM a k ∗ colOwn c bM b k) ⊢ cols c a b k := BI.Entails.refl _
  unfold args
  iintro ⟨HA, HB⟩
  ihave HA := ha $$ HA
  ihave HB := hb $$ HB
  icases HA with ⟨A0, A1, A2, A3⟩
  icases HB with ⟨B0, B1, B2, B3⟩
  isplitl [A0 B0]
  · iapply (hc 0); isplitl [A0] <;> iassumption
  isplitl [A1 B1]
  · iapply (hc 1); isplitl [A1] <;> iassumption
  isplitl [A2 B2]
  · iapply (hc 2); isplitl [A2] <;> iassumption
  · iapply (hc 3); isplitl [A3] <;> iassumption

theorem args_out : iprop(cols c a b 0 ∗ cols c a b 1 ∗ cols c a b 2 ∗ cols c a b 3) ⊢ args c a b := by
  have ha : iprop(colOwn c aM a 0 ∗ colOwn c aM a 1 ∗ colOwn c aM a 2 ∗ colOwn c aM a 3) ⊢ ((((c : Thread nD τ).loc main_arg0) ↦{fullShare} a) : sProp 𝕄) :=
    (arg_join c aM a).trans (Entails.of_eq (whole_held c main_arg0 a))
  have hb : iprop(colOwn c bM b 0 ∗ colOwn c bM b 1 ∗ colOwn c bM b 2 ∗ colOwn c bM b 3) ⊢ ((((c : Thread nD τ).loc main_arg1) ↦{fullShare} b) : sProp 𝕄) :=
    (arg_join c bM b).trans (Entails.of_eq (whole_held c main_arg1 b))
  have hc (k : Fin 4) : cols c a b k ⊢ iprop(colOwn c aM a k ∗ colOwn c bM b k) := BI.Entails.refl _
  unfold args
  iintro ⟨H0, H1, H2, H3⟩
  ihave H0 := (hc 0) $$ H0
  ihave H1 := (hc 1) $$ H1
  ihave H2 := (hc 2) $$ H2
  ihave H3 := (hc 3) $$ H3
  icases H0 with ⟨A0, B0⟩
  icases H1 with ⟨A1, B1⟩
  icases H2 with ⟨A2, B2⟩
  icases H3 with ⟨A3, B3⟩
  isplitl [A0 A1 A2 A3]
  · iapply ha
    isplitl [A0]; · iexact A0
    isplitl [A1]; · iexact A1
    isplitl [A2] <;> iassumption
  · iapply hb
    isplitl [B0]; · iexact B0
    isplitl [B1]; · iexact B1
    isplitl [B2] <;> iassumption

end

theorem blanks_in : iprop((∃ g : S2x1024x1024.Idx → Elt F .f32, held c aS Finset.univ g) ∗ (∃ g : S2x1024x1024.Idx → Elt F .f32, held c bS Finset.univ g))
    ⊢ iprop(blank (F := F) c 0 ∗ blank (F := F) c 1) := by
  unfold blank
  iintro ⟨⟨%g, HA⟩, %g', HB⟩
  ihave HA := (slots_split c aS g) $$ HA
  ihave HB := (slots_split c bS g') $$ HB
  icases HA with ⟨A0, A1⟩
  icases HB with ⟨B0, B1⟩
  isplitl [A0 B0]
  · isplitl [A0] <;> iassumption
  · isplitl [A1] <;> iassumption
theorem blanks_out : iprop(blank (F := F) c 0 ∗ blank (F := F) c 1)
    ⊢ iprop((∃ g : S2x1024x1024.Idx → Elt F .f32, held c aS Finset.univ g) ∗ (∃ g : S2x1024x1024.Idx → Elt F .f32, held c bS Finset.univ g)) := by
  unfold blank
  iintro ⟨⟨A0, B0⟩, A1, B1⟩
  isplitl [A0 A1]
  · iapply (slots_join c aS); isplitl [A0] <;> iassumption
  · iapply (slots_join c bS); isplitl [B0] <;> iassumption

theorem bufs_eq : (bigSep Finset.univ fun s : Fin 3 => bufs (F := F) c s)
    = iprop((buf (F := F) c 0 0 ∗ buf (F := F) c 0 1 ∗ buf (F := F) c 0 2) ∗ (buf (F := F) c 1 0 ∗ buf (F := F) c 1 1 ∗ buf (F := F) c 1 2)
      ∗ (buf (F := F) c 2 0 ∗ buf (F := F) c 2 1 ∗ buf (F := F) c 2 2)) := by rw [three]; rfl

/-- The scratch buffers, each at any contents, are the room. -/
theorem rest_chain : (Pipeline.scopedRest (Ix := Unit) (Name := ℕ) (U := UU) (Lvl := ℕ) (Val := Elt F) spec0 c : sProp 𝕄)
    = iprop(someSum (F := F) c ∗ someAcc (F := F) c ∗ (∃ g : S2x1024x1024.Idx → Elt F .f32, held c aS Finset.univ g) ∗ (∃ g : S2x1024x1024.Idx → Elt F .f32, held c bS Finset.univ g)
      ∗ buf (F := F) c 0 0 ∗ buf (F := F) c 0 1 ∗ buf (F := F) c 0 2 ∗ buf (F := F) c 1 0 ∗ buf (F := F) c 1 1 ∗ buf (F := F) c 1 2
      ∗ buf (F := F) c 2 0 ∗ buf (F := F) c 2 1 ∗ buf (F := F) c 2 2) := by
  rw [scopedRest0_eq, some_whole, some_whole, some_whole, some_whole, some_whole, some_whole, some_whole, some_whole, some_whole, some_whole, some_whole, some_whole, some_whole]
  rfl

theorem room_in : (Pipeline.scopedRest (Ix := Unit) (Name := ℕ) (U := UU) (Lvl := ℕ) (Val := Elt F) spec0 c : sProp 𝕄) ⊢ room (F := F) c := by
  unfold room store
  rw [rest_chain, bufs_eq]
  iintro ⟨Hs, Ha, HA, HB, B00, B01, B02, B10, B11, B12, B20, B21, B22⟩
  ihave Hbl := (blanks_in (F := F) c) $$ [HA HB]
  · isplitl [HA] <;> iassumption
  isplitl [Hs]; · iexact Hs
  isplitl [Hbl]; · iexact Hbl
  isplitl [Ha]; · iexact Ha
  isplitl [B00 B01 B02]
  · isplitl [B00]; · iexact B00
    isplitl [B01] <;> iassumption
  isplitl [B10 B11 B12]
  · isplitl [B10]; · iexact B10
    isplitl [B11] <;> iassumption
  · isplitl [B20]; · iexact B20
    isplitl [B21] <;> iassumption

theorem room_out : room (F := F) c ⊢ (Pipeline.scopedRest (Ix := Unit) (Name := ℕ) (U := UU) (Lvl := ℕ) (Val := Elt F) spec0 c : sProp 𝕄) := by
  unfold room store
  rw [rest_chain, bufs_eq]
  iintro ⟨Hs, Hbl, Ha, ⟨B00, B01, B02⟩, ⟨B10, B11, B12⟩, B20, B21, B22⟩
  ihave Hbl := (blanks_out (F := F) c) $$ Hbl
  icases Hbl with ⟨HA, HB⟩
  isplitl [Hs]; · iexact Hs
  isplitl [Ha]; · iexact Ha
  isplitl [HA]; · iexact HA
  isplitl [HB]; · iexact HB
  isplitl [B00]; · iexact B00
  isplitl [B01]; · iexact B01
  isplitl [B02]; · iexact B02
  isplitl [B10]; · iexact B10
  isplitl [B11]; · iexact B11
  isplitl [B12]; · iexact B12
  isplitl [B20]; · iexact B20
  isplitl [B21] <;> iassumption

end

end Cert.Cube

end
-- ==== Proof.Close.lean ====
/- The semaphores at rest: every cell's rounds are over. -/
module

public import proofs.«01_k».proof.Proof.Body
public import proofs.«01_k».proof.Proof.Gen.KernelIdeal.Launch

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores, by use. -/
abbrev OI : Type := (Fin 2 × Fin 2) ⊕ ((Fin 3 × Fin 2) ⊕ (Fin 3 × Fin 8))
def osem : OI → SemLoc sig
  | .inl jb => .dma (inS jb.1 jb.2)
  | .inr (.inl sh) => .dma (sndS sh.1 sh.2)
  | .inr (.inr sk) => .dma (rcvS sk.1 sk.2)

theorem ownSemFacts : Pipeline.OwnSemFacts cfg0.spec osem := by decide +kernel

section
variable (c : Dev nD)

theorem bar_rest : (unscopedSems0 c : sProp 𝕄) = semVal (barCell c) 0 := by
  unfold unscopedSems0; rw [bigSep_eq_bigSepL_of_eq [SemLoc.reg barS] (by decide) (by decide)]; rfl

theorem own_rest : (Pipeline.ownSems0 (Ix := Unit) (Name := ℕ) (U := UU) (Lvl := ℕ) (Val := Elt F) (τ := τ) osem c : sProp 𝕄)
    = iprop((inSems (F := F) c 0 ∗ inSems (F := F) c 1) ∗ (bigSep Finset.univ fun sh : Fin 3 × Fin 2 => (semVal (sndCell c sh.1 sh.2) 0 : sProp 𝕄))
      ∗ (bigSep Finset.univ fun sk : Fin 3 × Fin 8 => (semVal (rcvCell c sk.1 sk.2) 0 : sProp 𝕄))) := by
  unfold Pipeline.ownSems0
  rw [bigSep_univ_sum, bigSep_univ_sum, bigSep_univ_prod, two, two, two]
  rfl

end

section
variable (A0 : Dev nD → Arr F) (K : Dev nD × CI → ℕ) (c : Dev nD)

theorem not_unitless (g : GSem nD τ sig) : ¬ (Rd A0).unitless g := fun h => h

theorem close_bar : iprop(ctx A0 K ∗ atPos ER (barCell c) 1 ∅ 0) ⊢ |={Set.univ}=> (semVal (barCell c) 0 : sProp 𝕄) :=
  (sep_mono_left (ctx_inv A0 K (c, .inl ()))).trans (Rounds.cell_close ER (Rd A0) (Set.mem_univ _) (not_unitless A0 _) (later_bar A0 c))
theorem close_snd (s : Fin 3) (h : Fin 2) : iprop(ctx A0 K ∗ left (F := F) c s h (rounds h)) ⊢ |={Set.univ}=> (semVal (sndCell c s h) 0 : sProp 𝕄) := by
  unfold left
  iintro ⟨#Hctx, Hat, -⟩
  ihave #HI := (ctx_inv A0 K (c, .inr (.inl (s, h)))) $$ Hctx
  iapply (Rounds.cell_close ER (Rd A0) (κ := K (c, .inr (.inl (s, h)))) (Set.mem_univ _) (not_unitless A0 _) (later_snd A0 c s h))
  isplitr; · iexact HI
  iexact Hat
theorem close_rcv (s : Fin 3) (k : Fin 8) : iprop(ctx A0 K ∗ came (F := F) c s k) ⊢ |={Set.univ}=> (semVal (rcvCell c s k) 0 : sProp 𝕄) := by
  unfold came
  exact (sep_mono_left (ctx_inv A0 K (c, .inr (.inr (s, k))))).trans (Rounds.cell_close ER (Rd A0) (Set.mem_univ _) (not_unitless A0 _) (later_rcv A0 c s k))

theorem lefts_each : (bigSep Finset.univ fun s : Fin 3 => lefts (F := F) c s 5 3)
    = bigSep Finset.univ fun sh : Fin 3 × Fin 2 => left (F := F) c sh.1 sh.2 (rounds sh.2) := by
  rw [bigSep_univ_prod]
  refine bigSep_congr fun s _ => ?_
  rw [two]; rfl

theorem each_pers {I : Type} [DecidableEq I] [Fintype I] {R : sProp 𝕄} [BI.Persistent R] {Φ Ψ : I → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem close_all : iprop(ctx A0 K ∗ seen (F := F) c)
    ⊢ |={Set.univ}=> iprop(semVal (barCell c) 0 ∗ (bigSep Finset.univ fun sh : Fin 3 × Fin 2 => (semVal (sndCell c sh.1 sh.2) 0 : sProp 𝕄))
      ∗ (bigSep Finset.univ fun sk : Fin 3 × Fin 8 => (semVal (rcvCell c sk.1 sk.2) 0 : sProp 𝕄))) := by
  have hs : iprop(ctx A0 K ∗ bigSep Finset.univ fun s : Fin 3 => lefts (F := F) c s 5 3)
      ⊢ |={Set.univ}=> (bigSep Finset.univ fun sh : Fin 3 × Fin 2 => (semVal (sndCell c sh.1 sh.2) 0 : sProp 𝕄)) := by
    rw [lefts_each]
    exact (each_pers fun sh : Fin 3 × Fin 2 => close_snd A0 K c sh.1 sh.2).trans (bigSep_fupd _ _)
  have hr : iprop(ctx A0 K ∗ bigSep Finset.univ fun sk : Fin 3 × Fin 8 => came (F := F) c sk.1 sk.2)
      ⊢ |={Set.univ}=> (bigSep Finset.univ fun sk : Fin 3 × Fin 8 => (semVal (rcvCell c sk.1 sk.2) 0 : sProp 𝕄)) :=
    (each_pers fun sk : Fin 3 × Fin 8 => close_rcv A0 K c sk.1 sk.2).trans (bigSep_fupd _ _)
  unfold seen
  iintro ⟨#Hctx, Hb, Hc, Hl⟩
  imod (close_bar A0 K c) $$ [Hb] with Hb
  · isplitr; · iexact Hctx
    iexact Hb
  imod hs $$ [Hl] with Hl
  · isplitr; · iexact Hctx
    iexact Hl
  imod hr $$ [Hc] with Hc
  · isplitr; · iexact Hctx
    iexact Hc
  imodintro
  isplitl [Hb]; · iexact Hb
  isplitl [Hl] <;> iassumption

end

end Cert.Cube

end
-- ==== Proof.Deal.lean ====
/- What the launch deals the devices: the cells, the rights to start the transfers, the credits to await. -/
module

public import proofs.«01_k».proof.Proof.Room
public import proofs.«01_k».proof.Proof.Close
public import Idealize.ShloMosaic.Lib.Pipeline.Launch

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A0 : Dev nD → Arr F)

/-! ## Cells and tokens -/

theorem csem_injective : Function.Injective csem := by decide +kernel
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The payments a device's own cells await. -/
abbrev TI : Type := Fin 3 ⊕ ((Fin 3 × Fin 8) ⊕ (Fin 3 × Fin 8))
def tsem : TI → SemLoc sig × ℕ × Fin 3
  | .inl a => (.reg barS, 0, a)
  | .inr (.inl sk) => (.dma (sndS sk.1 (hf sk.2)), (st sk.2).val, 0)
  | .inr (.inr sk) => (.dma (rcvS sk.1 sk.2), 0, 0)
theorem tsem_injective : Function.Injective tsem := by decide +kernel
def tokOf (cj : Dev nD × TI) : GSem nD τ sig × ℕ × Fin 3 := (((cj.1 : Thread nD τ), (tsem cj.2).1), (tsem cj.2).2)
theorem tokOf_injective : Function.Injective tokOf := by
  rintro ⟨c, j⟩ ⟨c', j'⟩ h
  have h1 : c = c' := congrArg (fun x : GSem nD τ sig × ℕ × Fin 3 => x.1.1.1) h
  have h2 : j = j' := tsem_injective (congrArg (fun x : GSem nD τ sig × ℕ × Fin 3 => (x.1.2, x.2)) h)
  rw [h1, h2]
def allToks : Finset (GSem nD τ sig × ℕ × Fin 3) := Finset.univ.map ⟨tokOf, tokOf_injective⟩

/-- The tokens of a device's own cells. -/
def toks (c : Dev nD) : sProp 𝕄 :=
  iprop((bigSep Finset.univ fun a : Fin 3 => dutyTok ER (barCell c) 0 a)
    ∗ (bigSep Finset.univ fun sk : Fin 3 × Fin 8 => dutyTok ER (sndCell c sk.1 (hf sk.2)) (st sk.2).val 0)
    ∗ (bigSep Finset.univ fun sk : Fin 3 × Fin 8 => dutyTok ER (rcvCell c sk.1 sk.2) 0 0))
/-- The tokens a device pays with. -/
def pays (c : Dev nD) : sProp 𝕄 :=
  iprop((bigSep Finset.univ fun a : Fin 3 => dutyTok ER (barCell (nb c a)) 0 a) ∗ (bigSep Finset.univ fun sk : Fin 3 × Fin 8 => tok (F := F) c sk.1 sk.2))
def places (c : Dev nD) : sProp 𝕄 := bigSep Finset.univ fun k : CI => iprop(atPos ER (kcell (c, k)) 0 ∅ 0 ∗ reached ER (kcell (c, k)) 0)

def share (c : Dev nD) : sProp 𝕄 :=
  iprop((bigSep Finset.univ fun k : CI => roundState ER (Rd A0) (kcell (c, k)) 0) ∗ places (F := F) c ∗ toks (F := F) c)

theorem fund_all : BI.own (ER (initOf allCells allToks)) ⊢ (|==> bigSep Finset.univ (share A0) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (Rd A0) allCells allToks) $$ HX with ⟨Hst, Hr, Hat, Htok⟩
  imodintro
  ihave Hst' := (Entails.of_eq (hX fun g => roundState ER (Rd A0) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold share places; simp only [bigSep_sep']
  isplitl [Hst']; · iexact Hst'
  isplitl [Hat' Hr']
  · isplitl [Hat'] <;> iassumption
  iexact Htok'

/-! ## The tokens dealt round -/

theorem around {I : Type} [Fintype I] (e : I → Dev nD ≃ Dev nD) (Φ : I → Dev nD → sProp 𝕄) :
    (bigSep Finset.univ fun c : Dev nD => bigSep Finset.univ fun i : I => Φ i c) = bigSep Finset.univ fun c : Dev nD => bigSep Finset.univ fun i : I => Φ i (e i c) := by
  rw [← bigSep_univ_prod (fun x : Dev nD × I => Φ x.2 x.1), ← bigSep_univ_prod (fun x : Dev nD × I => Φ x.2 (e x.2 x.1))]
  exact bigSep_univ_equiv (⟨fun x => (e x.2 x.1, x.2), fun x => ((e x.2).symm x.1, x.2), fun x => by simp, fun x => by simp⟩ : Dev nD × I ≃ Dev nD × I) _

theorem toks_around : (bigSep Finset.univ fun c : Dev nD => toks (F := F) c) ⊢ bigSep Finset.univ fun c : Dev nD => pays (F := F) c := by
  have hp (c : Dev nD) : (bigSep Finset.univ fun sk : Fin 3 × Fin 8 => tok (F := F) c sk.1 sk.2)
      = iprop((bigSep Finset.univ fun sk : Fin 3 × Fin 8 => dutyTok ER (sndCell c sk.1 (hf sk.2)) (st sk.2).val 0)
        ∗ (bigSep Finset.univ fun sk : Fin 3 × Fin 8 => dutyTok ER (rcvCell (sdev c sk.1 sk.2) sk.1 sk.2) 0 0)) := by
    unfold tok; rw [bigSep_sep']
  unfold toks pays
  simp only [hp]
  rw [bigSep_sep', bigSep_sep', bigSep_sep', bigSep_sep',
    around nbE (fun a c => (dutyTok ER (barCell c) 0 a : sProp 𝕄)),
    around (fun sk : Fin 3 × Fin 8 => sdevE sk.1 sk.2) (fun sk c => (dutyTok ER (rcvCell c sk.1 sk.2) 0 0 : sProp 𝕄))]
  exact BI.Entails.refl _

/-! ## The cells opened -/

theorem by_cell (Φ : CI → sProp 𝕄) : bigSep Finset.univ Φ
    = iprop(Φ (.inl ()) ∗ (bigSep Finset.univ fun sh : Fin 3 × Fin 2 => Φ (.inr (.inl sh))) ∗ (bigSep Finset.univ fun sk : Fin 3 × Fin 8 => Φ (.inr (.inr sk)))) := by
  rw [bigSep_univ_sum, bigSep_univ_sum, bigSep_univ_eq_bigSepL [()] (by decide) (by decide)]; rfl
theorem drop_right (P Q : sProp 𝕄) : iprop(P ∗ Q) ⊢ P := by
  iintro ⟨H, -⟩
  iexact H

theorem sems_split (c : Dev nD) :
    iprop(Pipeline.ownSems0 (Ix := Unit) (Name := ℕ) (U := UU) (Lvl := ℕ) (Val := Elt F) (τ := τ) osem c ∗ unscopedSems0 c)
      ⊢ iprop((inSems (F := F) c 0 ∗ inSems (F := F) c 1) ∗ (bigSep Finset.univ fun k : CI => (semVal (kcell (c, k)) 0 : sProp 𝕄))) := by
  rw [own_rest, bar_rest, by_cell]
  iintro ⟨⟨Hi, Hs, Hr⟩, Hb⟩
  isplitl [Hi]; · iexact Hi
  isplitl [Hb]; · iexact Hb
  isplitl [Hs]
  · iexact Hs
  · iexact Hr

theorem core_alloc (c : Dev nD) :
    iprop(Pipeline.ownSems0 (Ix := Unit) (Name := ℕ) (U := UU) (Lvl := ℕ) (Val := Elt F) (τ := τ) osem c ∗ unscopedSems0 c ∗ share A0 c)
      ⊢ |={Set.univ}=> iprop((bigSep Finset.univ fun k : CI => iprop(∃ κ : ℕ, cellInv ER (Rd A0) κ (kcell (c, k))))
          ∗ places (F := F) c ∗ toks (F := F) c ∗ (inSems (F := F) c 0 ∗ inSems (F := F) c 1)) := by
  unfold share
  iintro ⟨Hos, Hus, Hst, Hat, Htok⟩
  ihave Hv := (sems_split (F := F) c) $$ [Hos Hus]
  · isplitl [Hos] <;> iassumption
  icases Hv with ⟨Hin, Hv⟩
  imod (show iprop((bigSep Finset.univ fun k : CI => semVal (kcell (c, k)) 0) ∗ bigSep Finset.univ fun k : CI => roundState ER (Rd A0) (kcell (c, k)) 0)
      ⊢ (|={Set.univ}=> bigSep Finset.univ fun k : CI => iprop(∃ κ : ℕ, cellInv ER (Rd A0) κ (kcell (c, k))) : sProp 𝕄) from by
        rw [← bigSep_sep']
        exact (bigSep_mono fun k _ => (Rounds.body_intro ER (Rd A0) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

def records (K : Dev nD × CI → ℕ) : sProp 𝕄 :=
  iprop((bigSep Finset.univ fun ck : Dev nD × CI => cellInv ER (Rd A0) (K ck) (kcell ck)) ∗ (bigSep Finset.univ fun ck : Dev nD × CI => reached ER (kcell ck) 0))
instance records_persistent (K : Dev nD × CI → ℕ) : BI.Persistent (records A0 K) := by unfold records; infer_instance

/-- What a device gets of its own. -/
def mine (c : Dev nD) : sProp 𝕄 := iprop(places (F := F) c ∗ pays (F := F) c ∗ (inSems (F := F) c 0 ∗ inSems (F := F) c 1))
def dealt (c : Dev nD) : sProp 𝕄 := iprop(∃ K, records A0 K ∗ mine (F := F) c)

theorem mine_all : iprop((bigSep Finset.univ fun c : Dev nD => places (F := F) c) ∗ (bigSep Finset.univ fun c : Dev nD => pays (F := F) c)
    ∗ (bigSep Finset.univ fun c : Dev nD => iprop(inSems (F := F) c 0 ∗ inSems (F := F) c 1))) ⊢ bigSep Finset.univ fun c : Dev nD => mine (F := F) c :=
  Entails.of_eq (by unfold mine; simp only [bigSep_sep'])

theorem dealt_intro (K : Dev nD × CI → ℕ) (c : Dev nD) : iprop(records A0 K ∗ mine (F := F) c) ⊢ dealt A0 c := by
  unfold dealt
  iintro H
  iexists K
  iexact H

theorem regroup :
    (bigSep Finset.univ fun c : Dev nD => iprop((bigSep Finset.univ fun k : CI => iprop(∃ κ : ℕ, cellInv ER (Rd A0) κ (kcell (c, k))))
          ∗ places (F := F) c ∗ toks (F := F) c ∗ (inSems (F := F) c 0 ∗ inSems (F := F) c 1)) : sProp 𝕄)
      ⊢ bigSep Finset.univ (dealt A0) := by
  have hr : (bigSep Finset.univ fun c : Dev nD => places (F := F) c)
      ⊢ iprop((bigSep Finset.univ fun c : Dev nD => places (F := F) c) ∗ bigSep Finset.univ fun ck : Dev nD × CI => (reached ER (kcell ck) 0 : sProp 𝕄)) := by
    unfold places
    rw [← bigSep_univ_prod (fun ck : Dev nD × CI => iprop(atPos ER (kcell ck) 0 ∅ 0 ∗ (reached ER (kcell ck) 0 : sProp 𝕄))), bigSep_sep']
    iintro ⟨Hat, #HR⟩
    isplitl
    · isplitl; · iexact Hat
      iexact HR
    · iexact HR
  rw [bigSep_sep', bigSep_sep', bigSep_sep', ← bigSep_univ_prod (fun ck : Dev nD × CI => iprop(∃ κ : ℕ, cellInv ER (Rd A0) κ (kcell ck)))]
  iintro ⟨HI, Hat, Htok, Hin⟩
  ihave Hat := hr $$ Hat
  icases Hat with ⟨Hat, #HR⟩
  ihave HK := (BI.bigSep_exists_pi Finset.univ (fun (ck : Dev nD × CI) (κ : ℕ) => (cellInv ER (Rd A0) κ (kcell ck) : sProp 𝕄))) $$ HI
  icases HK with ⟨%K, #HI⟩
  ihave Htk := (toks_around (F := F)) $$ Htok
  iapply (each_pers (R := records A0 K) (dealt_intro A0 K))
  isplitr
  · unfold records; isplitl; · iexact HI
    iexact HR
  · iapply (mine_all (F := F))
    isplitl [Hat]; · iexact Hat
    isplitl [Htk]; · iexact Htk
    iexact Hin

theorem glob : (bigSep Finset.univ fun c => iprop(Pipeline.ownSems0 (Ix := Unit) (Name := ℕ) (U := UU) (Lvl := ℕ) (Val := Elt F) (τ := τ) osem c ∗ unscopedSems0 c ∗ share A0 c) : sProp 𝕄)
    ⊢ |={Set.univ}=> bigSep Finset.univ (dealt A0) :=
  ((bigSep_mono fun c _ => core_alloc A0 c).trans (bigSep_fupd _ _)).trans (BI.fupd_mono (regroup A0))

end

/-! ## The credits -/

theorem bar_eq_iff {a b : Dev nD} : barCell a = barCell b ↔ a = b :=
  ⟨fun h => congrArg (fun g : GSem nD τ sig => g.1.1) h, fun h => h ▸ rfl⟩
theorem rcv_eq_iff {a b : Dev nD} {s s' : Fin 3} {k k' : Fin 8} : rcvCell a s k = rcvCell b s' k' ↔ a = b ∧ s = s' ∧ k = k' := by
  constructor
  · intro h
    have h1 : a = b := congrArg (fun g : GSem nD τ sig => g.1.1) h
    have h2 : role (.dma (rcvS s k)) = role (.dma (rcvS s' k')) := congrArg (fun g : GSem nD τ sig => role g.2) h
    rw [role_rcv, role_rcv] at h2
    injection h2 with h2 h3
    exact ⟨h1, h2, h3⟩
  · rintro ⟨rfl, rfl, rfl⟩; rfl
theorem rcv_ne_bar (a b : Dev nD) (s : Fin 3) (k : Fin 8) : rcvCell a s k ≠ barCell b := fun h => by
  have h2 : role (.dma (rcvS s k)) = role (.reg barS) := congrArg (fun g : GSem nD τ sig => role g.2) h
  rw [role_rcv, role_bar] at h2
  cases h2

theorem pend_zero : pend 0 = Finset.univ := by
  unfold pend; exact Finset.filter_true_of_mem fun _ _ => Nat.zero_le _

theorem due_at_bar (d c : Dev nD) : due d 0 (barCell c) () = 0 := by
  unfold due
  rw [Finset.sum_apply, Finsupp.finset_sum_apply]
  exact Finset.sum_eq_zero fun sk _ => by rw [tallyAt_apply, if_neg fun h => rcv_ne_bar _ _ _ _ h.1.symm]

theorem due_at_rcv (d c : Dev nD) (s : Fin 3) (k : Fin 8) : due d 0 (rcvCell c s k) () = if d = sdev c s k then N s k else 0 := by
  unfold due
  rw [Finset.sum_apply, Finsupp.finset_sum_apply, pend_zero, Finset.sum_eq_single (s, k)]
  · rw [tallyAt_apply]
    refine if_congr ?_ rfl rfl
    rw [rcv_eq_iff]
    constructor
    · rintro ⟨⟨h, -⟩, -⟩; rw [h, sdev_sdev]
    · rintro rfl; rw [sdev_sdev]; exact ⟨⟨rfl, rfl, rfl⟩, rfl⟩
  · rintro ⟨s', k'⟩ - hne
    rw [tallyAt_apply, if_neg]
    rintro ⟨h, -⟩
    rw [rcv_eq_iff] at h
    exact hne (Prod.ext h.2.1.symm h.2.2.symm)
  · exact fun h => absurd (Finset.mem_univ _) h

theorem unit_at_bar (d c : Dev nD) (a : Fin 3) : tallyAt (barCell (nb d a)) () 1 (barCell c) () = if d = nb c a then 1 else 0 := by
  rw [tallyAt_apply]
  refine if_congr ?_ rfl rfl
  rw [bar_eq_iff]
  constructor
  · rintro ⟨h, -⟩; rw [h, nb_nb]
  · rintro rfl; rw [nb_nb]; exact ⟨rfl, rfl⟩
theorem unit_at_rcv (d c : Dev nD) (s : Fin 3) (k : Fin 8) : tallyAt (barCell d) () 1 (rcvCell c s k) () = 0 := by
  rw [tallyAt_apply, if_neg fun h => rcv_ne_bar _ _ _ _ h.1]

theorem owed_bar (d c : Dev nD) : O₀ d (barCell c) () = (if d = nb c 2 then 1 else 0) + (if d = nb c 1 then 1 else 0) + (if d = nb c 0 then 1 else 0) := by
  unfold O₀
  rw [Pi.add_apply, Finsupp.add_apply, Pi.add_apply, Finsupp.add_apply, Pi.add_apply, Finsupp.add_apply, due_at_bar, unit_at_bar, unit_at_bar, unit_at_bar, Nat.zero_add]
theorem owed_rcv (d c : Dev nD) (s : Fin 3) (k : Fin 8) : O₀ d (rcvCell c s k) () = if d = sdev c s k then N s k else 0 := by
  unfold O₀
  rw [Pi.add_apply, Finsupp.add_apply, Pi.add_apply, Finsupp.add_apply, Pi.add_apply, Finsupp.add_apply, due_at_rcv, unit_at_rcv, unit_at_rcv, unit_at_rcv]
  simp only [Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb c 2) fun _ => 1, Finset.sum_ite_eq' Finset.univ (nb c 1) fun _ => 1, Finset.sum_ite_eq' Finset.univ (nb c 0) fun _ => 1,
    if_pos (Finset.mem_univ _), if_pos (Finset.mem_univ _), if_pos (Finset.mem_univ _)]
theorem launch_rcv (c : Dev nD) (s : Fin 3) (k : Fin 8) :
    tallyOn (rcvCell c s k) (launchCredit (Pipeline.owing O₀) 0 (rcvCell c s k)) = (tallyAt (rcvCell c s k) () (N s k) : CellTallies nD τ sig Unit) := by
  unfold tallyAt; refine congrArg _ (Finsupp.ext fun u => ?_); cases u
  rw [Pipeline.launchCredit_owing, Finsupp.single_eq_same, Finset.sum_congr rfl fun d _ => owed_rcv d c s k, Finset.sum_ite_eq' Finset.univ (sdev c s k) fun _ => N s k,
    if_pos (Finset.mem_univ _)]

def rsem (sk : Fin 3 × Fin 8) : SemLoc sig := .dma (rcvS sk.1 sk.2)
theorem rsem_injective : Function.Injective rsem := fun a b h => by
  have h2 : role (.dma (rcvS a.1 a.2)) = role (.dma (rcvS b.1 b.2)) := congrArg role h
  rw [role_rcv, role_rcv] at h2
  injection h2 with h2 h3
  exact Prod.ext h2 h3

theorem creds (c : Dev nD) : (Pipeline.launchCred O₀ c : sProp 𝕄)
    ⊢ iprop(cred (tallyAt (barCell c) () 3) ∗ (bigSep Finset.univ fun sk : Fin 3 × Fin 8 => cred (tallyAt (rcvCell c sk.1 sk.2) () (N sk.1 sk.2)))) := by
  have hs : Finset.univ.map ⟨rsem, rsem_injective⟩ ⊆ Finset.univ.erase (SemLoc.reg barS : SemLoc sig) := fun sm h => by
    obtain ⟨sk, -, rfl⟩ := Finset.mem_map.mp h
    exact Finset.mem_erase.mpr ⟨(by intro h; cases h), Finset.mem_univ _⟩
  unfold Pipeline.launchCred
  rw [bigSep_univ_at _ (SemLoc.reg barS), launch_bar]
  refine sep_mono_right ((bigSep_subset hs).trans ?_)
  rw [bigSep_map]
  exact bigSep_mono fun sk _ => Entails.of_eq (congrArg cred (launch_rcv c sk.1 sk.2))

/-! ## A device's rights -/

theorem places_split (c : Dev nD) : places (F := F) c
    ⊢ iprop(atPos ER (barCell c) 0 ∅ 0 ∗ (bigSep Finset.univ fun s : Fin 3 => lefts (F := F) c s 0 0) ∗ (bigSep Finset.univ fun sk : Fin 3 × Fin 8 => atPos ER (rcvCell c sk.1 sk.2) 0 ∅ 0)) := by
  have hl : (bigSep Finset.univ fun s : Fin 3 => lefts (F := F) c s 0 0)
      = bigSep Finset.univ fun sh : Fin 3 × Fin 2 => left (F := F) c sh.1 sh.2 0 := by
    rw [bigSep_univ_prod]
    refine bigSep_congr fun s _ => ?_
    rw [two]; rfl
  have hr : (bigSep Finset.univ fun sk : Fin 3 × Fin 8 => iprop(atPos ER (rcvCell c sk.1 sk.2) 0 ∅ 0 ∗ (reached ER (rcvCell c sk.1 sk.2) 0 : sProp 𝕄)))
      ⊢ (bigSep Finset.univ fun sk : Fin 3 × Fin 8 => (atPos ER (rcvCell c sk.1 sk.2) 0 ∅ 0 : sProp 𝕄)) := bigSep_mono fun sk _ => drop_right _ _
  unfold places
  rw [by_cell, hl]
  exact BIClass.sep_mono (drop_right _ _) (BIClass.sep_mono (BI.Entails.refl _) hr)

theorem rights_intro (c : Dev nD) : iprop(places (F := F) c ∗ pays (F := F) c ∗ Pipeline.launchCred O₀ c) ⊢ rights (F := F) c := by
  have ht : (bigSep Finset.univ fun sk : Fin 3 × Fin 8 => todo (F := F) c sk.1 sk.2)
      = iprop((bigSep Finset.univ fun sk : Fin 3 × Fin 8 => (cred (tallyAt (rcvCell c sk.1 sk.2) () (N sk.1 sk.2)) : sProp 𝕄)) ∗ (bigSep Finset.univ fun sk : Fin 3 × Fin 8 => atPos ER (rcvCell c sk.1 sk.2) 0 ∅ 0)) := by
    unfold todo; rw [bigSep_sep']
  unfold rights pays
  rw [ht]
  iintro ⟨Hp, ⟨Hb, Ht⟩, Hc⟩
  ihave Hp := (places_split (F := F) c) $$ Hp
  icases Hp with ⟨Hat, Hl, Hr⟩
  ihave Hc := (creds (F := F) c) $$ Hc
  icases Hc with ⟨Hcb, Hcr⟩
  isplitl [Hb]; · iexact Hb
  isplitl [Ht]; · iexact Ht
  isplitl [Hl]; · iexact Hl
  isplitl [Hcb]; · iexact Hcb
  isplitl [Hat]; · iexact Hat
  isplitl [Hcr] <;> iassumption

end Cert.Cube

end
-- ==== Proof.Point.lean ====
/- The one step of a device's run: what it starts from and what it leaves. -/
module

public import proofs.«01_k».proof.Proof.Deal
public import proofs.«01_k».proof.Proof.Gen.KernelIdeal.Points

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

section
variable (m : (ℓ : Loc nD τ sig) → Buf (Elt F) ℓ) (ρ : Dev nD → PrngReg)

/-- The memory at launch: any contents, every counter zero. -/
def start₀ : MemSt nD τ sig (Elt F) := ⟨m, fun _ => 0, ρ⟩

def argA (c : Dev nD) : Arg F := m ((c : Thread nD τ).loc main_arg0)
def argB (c : Dev nD) : Arg F := m ((c : Thread nD τ).loc main_arg1)
/-- Each device's product, what the exchange starts from. -/
def prods (c : Dev nD) : Arr F := prod (argA m c) (argB m c)

def start (c : Dev nD) : sProp 𝕄 :=
  iprop((∃ K, ctx (prods m) K) ∗ rights (F := F) c ∗ (inSems (F := F) c 0 ∗ inSems (F := F) c 1) ∗ args c (argA m c) (argB m c))
def before₀ (c : Dev nD) : sProp 𝕄 := iprop(start m c ∗ room (F := F) c)
def after₀ (c : Dev nD) : sProp 𝕄 :=
  iprop(args c (argA m c) (argB m c) ∗ room (F := F) c ∗ Pipeline.ownSems0 (Ix := Unit) (Name := ℕ) (U := UU) (Lvl := ℕ) (Val := Elt F) (τ := τ) osem c ∗ unscopedSems0 c)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => OUT (prods m) c
  Φ t := match t with
    | ⟨0, _⟩ => before₀ m c
    | ⟨_ + 1, _⟩ => after₀ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem due_end (c : Dev nD) : due c 24 = 0 := by
  unfold due
  rw [show pend 24 = ∅ from by decide +kernel, Finset.sum_empty]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_in (c : Dev nD) (X : Arr F) : stg c cc0_stg0_0 X ⊢ someOut (F := F) c := by
  have h (f : Arr F) : ((((c : Thread nD τ).loc cc0_stg0_0) ↦{fullShare} f) : sProp 𝕄) ⊢ held c outM Finset.univ f := Entails.of_eq (whole_held c cc0_stg0_0 f).symm
  unfold someOut
  iintro ⟨%f, -, H⟩
  iexists f
  iapply (h f) $$ H
theorem stg_out (c : Dev nD) (X : Arr F) : held c outM Finset.univ X ⊢ stg c cc0_stg0_0 X := by
  have h (f : Arr F) : held c outM Finset.univ f ⊢ ((((c : Thread nD τ).loc cc0_stg0_0) ↦{fullShare} f) : sProp 𝕄) := Entails.of_eq (whole_held c cc0_stg0_0 f)
  iintro H
  iexists X
  isplitr
  · ipureintro; rfl
  · iapply (h X) $$ H

def pre (c : Dev nD) : sProp 𝕄 :=
  iprop(before₀ m c ∗ (dats m ρ 0 c).owesAt () t₀.castSucc ∗ (∃ d, stg c cc0_stg0_0 ((dats m ρ 0 c).before (0 : Fin 1) t₀ d)))
def post (c : Dev nD) : sProp 𝕄 :=
  iprop(after₀ m c ∗ (dats m ρ 0 c).owesAt () t₀.succ ∗ stg c cc0_stg0_0 (OUT (prods m) c))

theorem debt_in (c : Dev nD) : (dats m ρ 0 c).owesAt () t₀.castSucc ⊢ debt0 (F := F) c := by
  unfold Dat.owesAt Pipeline.owesWithin debt0
  rw [show (dats m ρ 0 c).owed t₀.castSucc = O₀ c from rfl]
  iintro ⟨%W, -, H⟩
  iexists W
  iexact H
theorem debt_out (c : Dev nD) : debt (F := F) c 24 ⊢ (dats m ρ 0 c).owesAt () t₀.succ := by
  unfold Dat.owesAt Pipeline.owesWithin debt
  rw [show (dats m ρ 0 c).owed t₀.succ = 0 from rfl, due_end]
  iintro ⟨%W, H⟩
  iexists W
  isplitr
  · ipureintro; exact fun _ _ => Or.inl trivial
  · iexact H

theorem sems_join (c : Dev nD) :
    iprop((inSems (F := F) c 0 ∗ inSems (F := F) c 1) ∗ semVal (barCell c) 0 ∗ (bigSep Finset.univ fun sh : Fin 3 × Fin 2 => (semVal (sndCell c sh.1 sh.2) 0 : sProp 𝕄))
      ∗ (bigSep Finset.univ fun sk : Fin 3 × Fin 8 => (semVal (rcvCell c sk.1 sk.2) 0 : sProp 𝕄)))
    ⊢ iprop(Pipeline.ownSems0 (Ix := Unit) (Name := ℕ) (U := UU) (Lvl := ℕ) (Val := Elt F) (τ := τ) osem c ∗ unscopedSems0 c) := by
  rw [own_rest, bar_rest]
  iintro ⟨Hi, Hb, Hs, Hr⟩
  isplitr [Hb]
  · isplitl [Hi]; · iexact Hi
    isplitl [Hs] <;> iassumption
  · iexact Hb

theorem finish (K : Dev nD × CI → ℕ) (c : Dev nD) :
    iprop(ctx (prods m) K ∗ desk c (argA m c) (argB m c) ∗ debt (F := F) c 24 ∗ store (F := F) c ∗ held c outM Finset.univ (OUT (prods m) c) ∗ seen (F := F) c)
      ⊢ |={Set.univ}=> post m ρ c := by
  unfold desk
  iintro ⟨#Hctx, ⟨Hc, Hb, Hi, Hs⟩, HO, Hst, Hout, Hseen⟩
  imod (close_all (prods m) K c) $$ [Hseen] with Hsem
  · isplitr; · iexact Hctx
    iexact Hseen
  imodintro
  ihave Hsem := (sems_join (F := F) c) $$ [Hi Hsem]
  · isplitl [Hi] <;> iassumption
  icases Hsem with ⟨Hown, Hun⟩
  ihave Ha := (args_out c (argA m c) (argB m c)) $$ Hc
  ihave HO := (debt_out m ρ c) $$ HO
  ihave Hout := (stg_out c (OUT (prods m) c)) $$ Hout
  unfold post after₀ room
  isplitr [HO Hout]
  · isplitl [Ha]; · iexact Ha
    isplitl [Hs Hb Hst]
    · isplitl [Hs]; · iexact Hs
      isplitl [Hb] <;> iassumption
    · isplitl [Hown] <;> iassumption
  · isplitl [HO] <;> iassumption

theorem set_out (c : Dev nD) : pre m ρ c
    ⊢ iprop(∃ K, ctx (prods m) K ∗ desk c (argA m c) (argB m c) ∗ debt0 (F := F) c ∗ store (F := F) c ∗ someOut (F := F) c ∗ rights (F := F) c) := by
  unfold pre before₀ start room desk
  iintro ⟨⟨⟨⟨%K, #Hctx⟩, Hr, Hi, Ha⟩, Hs, Hb, Hst⟩, HO, %d, Hout⟩
  ihave Hc := (args_in c (argA m c) (argB m c)) $$ Ha
  ihave HO := (debt_in m ρ c) $$ HO
  ihave Hout := (stg_in c ((dats m ρ 0 c).before (0 : Fin 1) t₀ d)) $$ Hout
  iexists K
  isplitr; · iexact Hctx
  isplitl [Hc Hb Hi Hs]
  · isplitl [Hc]; · iexact Hc
    isplitl [Hb]; · iexact Hb
    isplitl [Hi] <;> iassumption
  isplitl [HO]; · iexact HO
  isplitl [Hst]; · iexact Hst
  isplitl [Hout] <;> iassumption

theorem run_body (c : Dev nD) : pre m ρ c ⊢ wp frame (wpE (defs₀ (F := F)) 𝒱₀ (c : Thread nD τ) none) Set.univ (steps (F := F)) (fun _ => post m ρ c) := by
  refine BIBase.Entails.trans ?_ (wp_fupd _ _ _ _ _)
  refine (set_out m ρ c).trans ?_
  have hb (K : Dev nD × CI → ℕ) := body_ok (prods m) K c (argA m c) (argB m c) rfl (Kt := fun _ => iprop(|={Set.univ}=> post m ρ c))
  iintro ⟨%K, #Hctx, H⟩
  iapply (hb K) $$ [H]
  · isplitr; · iexact Hctx
    iexact H
  iintro H
  iapply (finish m ρ K c)
  isplitr; · iexact Hctx
  iexact H

set_option maxRecDepth 65536 in
theorem body_obligation (c : Dev nD) : BodyObligation (dats (F := F) m ρ 0 c) (defs₀ (F := F)) 𝒱₀ () Set.univ := fun t => by
  rw [fin_N t, bigSep_W0, bigSep_W0]
  simp only [owns_whole_eq]
  exact run_body m ρ c

end

end Cert.Cube

end
-- ==== Proof.Launch.lean ====
/- The whole run, from any memory with every counter zero: it ends, each device's result is its finished rows, the
   arguments are as they were, every counter is zero. -/
module

public import proofs.«01_k».proof.Proof.Point
public import Idealize.ShloMosaic.Lib.Pipeline.Launch
public import Idealize.ShloMosaic.Lib.Pipeline.CollectiveSegs

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

def u₀ : UU := (initOf (Pipeline.cells cfgs cellOf_inj) (Pipeline.launchToks cfgs cellOf_inj), (initOf allCells allToks, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

section
variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt (prods m) c)
      ⊢ |={Set.univ}=> iprop(start m c ∗ emp) := by
  have ha : (Pipeline.unscopedRestP (Ix := Unit) (Name := ℕ) (U := UU) (Lvl := ℕ) (Val := Elt F) Pipeline.Prefetch.none cfg0.spec c (fun b => m ((c : Thread nD τ).loc b)) : sProp 𝕄)
      ⊢ args c (argA m c) (argB m c) := by
    rw [Pipeline.unscopedRestP_none]; exact Entails.of_eq (unscopedRest0_eq c _)
  unfold dealt mine records
  iintro ⟨Ha, #Hlev, Hcr, -, %K, ⟨#HI, #HR⟩, Hpl, Hpa, Hin⟩
  ihave Ha := ha $$ Ha
  ihave Hr := (rights_intro (F := F) c) $$ [Hpl Hpa Hcr]
  · isplitl [Hpl]; · iexact Hpl
    isplitl [Hpa] <;> iassumption
  imodintro
  isplitl
  · unfold start
    isplitr
    · iexists K
      unfold ctx
      isplitr; · iexact HI
      isplitr; · iexact HR
      iexact Hlev
    isplitl [Hr]; · iexact Hr
    isplitl [Hin] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  have hr : (Pipeline.scopedRest (Ix := Unit) (Name := ℕ) (U := UU) (Lvl := ℕ) (Val := Elt F) cfg0.spec c : sProp 𝕄) ⊢ room (F := F) c := room_in c
  rw [show (dats m ρ 0 c).Φ 0 = before₀ m c from rfl]
  unfold before₀
  iintro ⟨Hs, -, Hr⟩
  isplitl [Hs]; · iexact Hs
  iapply hr $$ Hr

/-- What a device still holds after its run. -/
def leaves (c : Dev nD) : sProp 𝕄 := iprop(args c (argA m c) (argB m c) ∗ unscopedSems0 c)

theorem leave (c : Dev nD) :
    (dats m ρ 0 c).Φ (Fin.last cfg0.N) ⊢ iprop(leaves m c ∗ Pipeline.ownSems0 osem c ∗ Pipeline.scopedRest cfg0.spec c) := by
  have hr : room (F := F) c ⊢ (Pipeline.scopedRest (Ix := Unit) (Name := ℕ) (U := UU) (Lvl := ℕ) (Val := Elt F) cfg0.spec c : sProp 𝕄) := room_out c
  rw [show (dats m ρ 0 c).Φ (Fin.last cfg0.N) = after₀ m c from rfl]
  unfold after₀ leaves
  iintro ⟨Ha, Hr, Ho, Hu⟩
  isplitl [Ha Hu]
  · isplitl [Ha] <;> iassumption
  isplitl [Ho]; · iexact Ho
  iapply hr $$ Hr

theorem stage_low : ∀ (w : Fin cfg0.W) (s : Fin (cfg0.win w).nbuf), ∀ c : Dev nD, lv ((c : Thread nD τ), .dma ((cfg0.win w).sem s)) () = 0 := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_low c _ (stage_low w s c) _ (by
      rcases t with ⟨_ | _, ht⟩
      · exact Or.inl rfl
      · exact Or.inr rfl)

/-- What is read of a device's memory at the end. -/
def kept (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem args_read (c : Dev nD) (s' : Phys nD τ sig (Elt F)) : iprop(args c (argA m c) (argB m c) ∗ SI s')
    ⊢ (iprop(⌜s'.mem.mem ((c : Thread nD τ).loc main_arg0) = m ((c : Thread nD τ).loc main_arg0) ∧ s'.mem.mem ((c : Thread nD τ).loc main_arg1) = m ((c : Thread nD τ).loc main_arg1)⌝ ∗ SI s') : sProp 𝕄) := by
  unfold args
  iintro ⟨⟨Ha, Hb⟩, HSI⟩
  icombine HSI Ha gives %ha
  icombine HSI Hb gives %hb
  isplitr
  · ipureintro
    exact ⟨Buf.eq_of_forall_mem_univ ha, Buf.eq_of_forall_mem_univ hb⟩
  · iexact HSI

theorem read_end (c : Dev nD) (s' : Phys nD τ sig (Elt F)) :
    iprop(leaves m c ∗ emp ∗ SI s') ⊢ |={Set.univ}=> (iprop(⌜kept m c s'.mem⌝ ∗ SI s') : sProp 𝕄) := by
  unfold leaves
  iintro ⟨⟨Ha, Hu⟩, -, HSI⟩
  ihave H := (args_read m c s') $$ [Ha HSI]
  · isplitl [Ha] <;> iassumption
  icases H with ⟨%h, HSI⟩
  imod (Pipeline.unscopedSems0_read (X := unscopedSems0 c) (c := c) fupd_intro s') $$ [Hu HSI] with H
  · isplitl [Hu] <;> iassumption
  icases H with ⟨%h', HSI⟩
  imodintro
  isplitr
  · ipureintro; exact ⟨h, h'⟩
  · iexact HSI

/-- A device's result array at the end. -/
def result (c : Dev nD) : Buf (Elt F) ((cfg0.win (0 : Fin 1)).arr.view.loc (c : Thread nD τ)) := (dats m ρ 0 c).arrAt (0 : Fin 1) cfg0.N

set_option maxRecDepth 65536 in
theorem run_main : θ_run defs (onTc (τ := τ) (main (F := F))) ⟨m, fun _ => 0, ρ⟩
    (fun r => (∀ c : Dev nD, r.2.mem ((cfg0.win (0 : Fin 1)).arr.view.loc (c : Thread nD τ)) = result m ρ c
      ∧ r.2.mem ((c : Thread nD τ).loc main_arg0) = m ((c : Thread nD τ).loc main_arg0) ∧ r.2.mem ((c : Thread nD τ).loc main_arg1) = m ((c : Thread nD τ).loc main_arg1))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := share (prods m)) (G' := dealt (prods m)) (u₀ := u₀)
    (hu₀ := by
      unfold u₀
      iintro Hu
      ihave H := (own_split _ _) $$ Hu
      icases H with ⟨HP, HX⟩
      imod (fund_all (prods m)) $$ HX with HG
      imodintro
      isplitl [HP] <;> iassumption)
    (hglob := glob (prods m))
    (hA := fun _ _ => rfl) (hpf := fun _ k => k.elim0)
    (X := start m) (Y := leaves m) (Z := fun _ => iprop(emp))
    (hX := start_intro m ρ) (hin := enter m ρ) (hout := leave m ρ)
    (QY := kept m) (hY := read_end m)
    (hQ := fun _ h hs => ⟨fun c => ⟨(h c).1 (0 : Fin 1), (h c).2.2.1⟩, sem_eq_zero hs fun c => (h c).2.2.2⟩)

end

end Cert.Cube

end
-- ==== Proof.Result.lean ====
/- What the run writes back: a device's finished rows, as its whole result array. -/
module

public import proofs.«01_k».proof.Proof.Launch

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (ρ : Dev nD → PrngReg)

theorem block_result (c : Dev nD) : (win0_0.blk (0 : Fin 1)).view.read (Elt F) (result m ρ c) = OUT (prods m) c := by
  unfold result
  rw [show cfg0.N = ((0 : Fin 1) : Fin cfg0.N).val + 1 from rfl, (dats m ρ 0 c).arrAt_succ (0 : Fin 1) (0 : Fin 1)]
  rw [show (cfg0.win (0 : Fin 1)).flush (0 : Fin 1) = true from flush0_0 _, if_pos rfl]
  exact View.read_write_univ _ _

/-- The window's one block is the whole array. -/
theorem result_eq (c : Dev nD) : result m ρ c = OUT (prods m) c := by
  have hz : (fun a => (win0_0.index (0 : Fin 1)) a * main_v1.ty.shape.size a) = fun _ => 0 :=
    funext fun a => by fin_cases a <;> decide
  exact (Memref.read_access_unit_zero (Elt F) main_v1 hz (fun a => by fin_cases a <;> decide) (result m ρ c)).symm.trans (block_result m ρ c)

end

end Cert.Cube

end
-- ==== Proof.Local.lean ====
/- What one device multiplies, in exact arithmetic: the sum over its part of the contracted axis. -/
module

public import proofs.«01_k».proof.Proof.Product
public import Idealize.ShloMosaic.Lib.MatmulPlain

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

theorem dot_block : dot_S1024x1024_S1024x1024_S1024x1024_1_1_0_0_n_n = DotDims.transposedRhs 1024 1024 1024 := rfl

/-- A block with a unit axis, without it. -/
theorem flat_cube (Y : Blk Ideal) (i j : Fin 1024) :
    shapeCast S1024x1024 (cube Y) shapeCasts_S1x1024x1024_S1024x1024 (ix2 i j) = Y (ix2 i j) :=
  (shapeCast_1ab_ab_apply (cube Y) _ i j).trans rfl

theorem first_block (X Y : Blk Ideal) (i j : Fin 1024) :
    k0_pay2 (F := Ideal) (k0_pay1 (cube X)) (cube Y) (ix2 i j) = ∑ k : Fin 1024, X (ix2 i k) * Y (ix2 j k) := by
  unfold k0_pay2 k0_pay1
  rw [shapeCast_self, dot_block]
  refine (Ideal.matmul_transposedRhs_apply none _ _ _ i j).trans ?_
  refine Eq.trans (congrArg₂ (· + ·) Ideal.ofBits_zero_f32 (Finset.sum_congr rfl fun k _ => congrArg₂ (· * ·) (flat_cube X i k) (flat_cube Y j k))) (zero_add _)

theorem next_block (X Y Z : Blk Ideal) (i j : Fin 1024) :
    k0_pay3 (F := Ideal) (cube X) (cube Y) Z (ix2 i j) = Z (ix2 i j) + ∑ k : Fin 1024, X (ix2 i k) * Y (ix2 j k) := by
  unfold k0_pay3
  rw [shapeCast_self, dot_block]
  refine congrArg (Z (ix2 i j) + ·) ((Ideal.matmul_transposedRhs_apply none _ _ _ i j).trans ?_)
  refine Eq.trans (congrArg₂ (· + ·) Ideal.ofBits_zero_f32 (Finset.sum_congr rfl fun k _ => congrArg₂ (· * ·) (flat_cube X i k) (flat_cube Y j k))) (zero_add _)

/-- Column `k` of block `n` of `q` blocks of `m`. -/
abbrev at_ {q m : ℕ} (n : Fin q) (k : Fin m) : Fin (q * m) := finProdFinEquiv (n, k)

theorem colv_apply (n : Fin 4) (a : Arg Ideal) (i k : Fin 1024) : colv n a (ix2 i k) = a (ix2 i (at_ n k)) := by
  unfold colv
  refine congrArg a (funext fun d => Fin.ext ?_)
  match d with
  | ⟨0, _⟩ => show 0 + 1 * i.val = i.val; omega
  | ⟨1, _⟩ => show 1024 * n.val + 1 * k.val = k.val + 1024 * n.val; omega

theorem sum_blocks {q m : ℕ} (f : Fin (q * m) → EReal) : ∑ x, f x = ∑ n : Fin q, ∑ k : Fin m, f (at_ n k) := by
  rw [← finProdFinEquiv.sum_comp, Fintype.sum_prod_type]

theorem prod_apply (a b : Arg Ideal) (i j : Fin 1024) : prod (F := Ideal) a b (ix2 i j) = ∑ x : Fin 4096, a (ix2 i x) * b (ix2 j x) := by
  have h : ∑ x : Fin 4096, a (ix2 i x) * b (ix2 j x) = ∑ n : Fin 4, ∑ k : Fin 1024, a (ix2 i (at_ n k)) * b (ix2 j (at_ n k)) :=
    sum_blocks (q := 4) (m := 1024) fun x => a (ix2 i x) * b (ix2 j x)
  have hp : prod (F := Ideal) a b (ix2 i j) = sum3 (F := Ideal) a b (ix2 i j) := by
    unfold prod k0_pay6; rw [shapeCast_self]; rfl
  rw [hp, h, Fin.sum_univ_four]
  unfold sum3 sum2 sum1 sum0
  rw [next_block, next_block, next_block, first_block]
  simp only [colv_apply]

end Cert.Cube

end
-- ==== Proof.Summed.lean ====
/- What the exchange leaves, in exact arithmetic: on every device the sum over the devices. -/
module

public import proofs.«01_k».proof.Proof.Body
public import proofs.«01_k».proof.Proof.Local

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A0 : Dev nD → Arr Ideal)

/-- The devices whose contributions reach `c` in the three steps of slab `s`. -/
def from_ (c : Dev nD) (s : Fin 3) (j : Fin 8) : Dev nD :=
  let d0 := if j.val / 4 = 0 then c else sdev c s (kk 2 0)
  let d1 := if j.val / 2 % 2 = 0 then d0 else sdev d0 s (kk 1 0)
  if j.val % 2 = 0 then d1 else sdev d1 s (kk 0 0)

theorem from_inj : ∀ (c : Dev nD) (s : Fin 3) (i j : Fin 8), from_ c s i = from_ c s j → i = j := by decide +kernel
theorem from_bij (c : Dev nD) (s : Fin 3) : Function.Bijective (from_ c s) :=
  (Finite.injective_iff_bijective).mp fun i j h => from_inj c s i j h

theorem part_step (s : Fin 3) (n : ℕ) (c : Dev nD) (i : S1024x1024.Idx) :
    (part A0 s (n + 1) c i : EReal) = part A0 s n c i + part A0 s n (sdev c s (kk (Fin.ofNat 3 n) 0)) i := rfl

/-- After the three steps every device has the sum over all. -/
theorem part_all (s : Fin 3) (c : Dev nD) (i : S1024x1024.Idx) : (part A0 s 3 c i : EReal) = ∑ d : Dev nD, (A0 d i : EReal) := by
  have h0 (d : Dev nD) : (part A0 s 0 d i : EReal) = A0 d i := rfl
  rw [← (from_bij c s).sum_comp fun d => (A0 d i : EReal), Fin.sum_univ_eight]
  simp only [part_step, h0, add_assoc]
  rfl

theorem out_apply (c : Dev nD) (i : S1024x1024.Idx) : (OUT A0 c i : EReal) = ∑ d : Dev nD, (A0 d i : EReal) :=
  part_all A0 (slabOf i) _ i

end

end Cert.Cube

end
-- ==== Proof.Equal.lean ====
/- What the reference computes, in exact arithmetic, and that the kernel's devices compute the same. -/
module

public import proofs.«01_k».proof.Proof.Summed
public import proofs.«01_k».proof.Proof.Gen.ReferenceIdeal.Run
public import Idealize.ShloMosaic.Lib.StackMember
public import Idealize.ShloMosaic.Lib.ValueLayout
public import Idealize.ShloMosaic.Lib.Layout

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-- The whole arrays: all devices' columns side by side. -/
abbrev Whole : Type := (⟨2, ![1024, 32768]⟩ : Shape).Idx → Ideal .f32

/-- The reference's result, as its run states it. -/
abbrev refOut (a b : Whole) : Arr Ideal :=
  truncf .bf16 (Host.dotGeneral Cert.ReferenceIdeal.dot_S1024x32768_S32768x1024_S1024x1024_1_0_0_1_n_n none
    (truncf .bf16 (a : FVec Ideal Cert.ReferenceIdeal.S1024x32768 .f32) Cert.ReferenceIdeal.Facts₀.bitsLt_bf16_f32)
    (transpose Cert.ReferenceIdeal.S32768x1024 [1, 0] (truncf .bf16 (b : FVec Ideal Cert.ReferenceIdeal.S1024x32768 .f32) Cert.ReferenceIdeal.Facts₀.bitsLt_bf16_f32)
      Cert.ReferenceIdeal.Facts₀.transposes_S1024x32768_S32768x1024_1_0)) Cert.ReferenceIdeal.Facts₀.bitsLt_bf16_f32

theorem dot_whole : Cert.ReferenceIdeal.dot_S1024x32768_S32768x1024_S1024x1024_1_0_0_1_n_n = DotDims.plain 1024 32768 1024 := rfl

theorem refOut_apply (a b : Whole) (i j : Fin 1024) : refOut a b (ix2 i j) = ∑ x : Fin 32768, a (ix2 i x) * b (ix2 j x) := by
  unfold refOut
  rw [dot_whole]
  refine (Idealize.ShloMosaic.StackMember.dotGeneral_plain_apply none _ _ i j).trans ?_
  exact Finset.sum_congr rfl fun x _ => congrArg (a (ix2 i x) * ·) (transpose_ix2_apply _ _ x j)

/-- Device `c`'s columns of a whole array. -/
abbrev wcols (c : Dev nD) (a : Whole) : Arg Ideal := Layout.block ⟨2, ![1024, 4096]⟩ ⟨2, ![1024, 32768]⟩ 1 8 c a

theorem wcols_apply (c : Dev nD) (a : Whole) (i : Fin 1024) (x : Fin 4096) : wcols c a (ix2 i x) = a (ix2 i (at_ (q := 8) c x)) := by
  unfold wcols
  rw [Layout.block_apply]
  refine congrArg a (funext fun d => Fin.ext ?_)
  match d with
  | ⟨0, _⟩ => rfl
  | ⟨1, _⟩ => show c.val * 4096 + x.val = x.val + 4096 * c.val; omega

/-- The devices' products of their columns, added, are the product of the whole arrays. -/
theorem out_eq (a b : Whole) (A0 : Dev nD → Arr Ideal) (h : ∀ c, A0 c = prod (F := Ideal) (wcols c a) (wcols c b)) (c : Dev nD) :
    OUT A0 c = refOut a b := by
  have key (i j : Fin 1024) : OUT A0 c (ix2 i j) = refOut a b (ix2 i j) := by
    refine (out_apply A0 c _).trans (Eq.trans ?_ (refOut_apply a b i j).symm)
    refine Eq.trans ?_ (sum_blocks (q := 8) (m := 4096) fun x => a (ix2 i x) * b (ix2 j x)).symm
    refine Finset.sum_congr rfl fun d _ => ?_
    rw [h d]
    refine (prod_apply _ _ i j).trans ?_
    exact Finset.sum_congr rfl fun x _ => congrArg₂ (· * ·) (wcols_apply d a i x) (wcols_apply d b j x)
  funext i
  rw [show i = ix2 (i 0 : Fin 1024) (i 1 : Fin 1024) from eq_ix2 i]
  exact key (i 0) (i 1)

end Cert.Cube

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Result
public import proofs.«01_k».proof.Proof.Equal
public import Idealize.ShloMosaic.Lib.Quiescent

@[expose] public section

noncomputable section

namespace Cert.Proof

open Idealize.ShloMosaic Idealize.ShloMosaic.TcCoe Idealize.SL.Sem

/-- The two programs have one text: their tables of bodies are equal, body by body. -/
theorem table_eq : Cert.Kernel.defs₀ (F := Bits) = Cert.KernelIdeal.defs₀ (F := Bits) := by
  refine congrArg (Defs.onTc (nD := Cert.Kernel.nD) (τ := Cert.Kernel.τ) (sig := Cert.Kernel.sig)) (funext fun l => funext fun x => ?_)
  match l, x with
  | ⟨0, _⟩, (t, s) => rfl

theorem defs_eq : Cert.Kernel.defs (F := Bits) = Cert.KernelIdeal.defs (F := Bits) := congrArg (Pipeline.defs Cert.Kernel.pcfgs) table_eq

/-- The kernel ends from any memory with zero counters, its arguments as they were, every counter zero. -/
theorem frame_kernel : Cert.quiescent_Kernel := by
  intro m ρ _
  rw [defs_eq]
  exact (θ_run Cert.KernelIdeal.defs _ _).mono (fun _ h => ⟨fun c => (h.1 c).2, h.2⟩) (Cert.Cube.run_main (F := Bits) m ρ)

/-- The same of the kernel read over the extended reals. -/
theorem frame_kernelIdeal : Cert.quiescent_KernelIdeal := fun m ρ _ =>
  (θ_run Cert.KernelIdeal.defs _ _).mono (fun _ h => ⟨fun c => (h.1 c).2, h.2⟩) (Cert.Cube.run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's whole result. -/
theorem algebraic : Cert.algebraic_KernelIdeal_ReferenceIdeal := by
  intro m ρ m' ρ' _ hagree
  refine ⟨Cert.Cube.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans ((Cert.Cube.result_eq m ρ c).trans ?_), (h.1 c).2⟩)
      (Cert.Cube.run_main (F := Ideal) m ρ)
    exact Cert.Cube.out_eq _ _ (Cert.Cube.prods m) (fun d => congrArg₂ (Cert.Cube.prod (F := Ideal)) (hagree d).1 (hagree d).2) c
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
